-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 2048]⟩ ⟨2, ![4096, 2048]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S4096x2048 : Shape := ⟨2, ![4096, 2048]⟩
abbrev S512x2048 : Shape := ⟨2, ![512, 2048]⟩
abbrev S4x512x512 : Shape := ⟨3, ![4, 512, 512]⟩
abbrev S8x512x512 : Shape := ⟨3, ![8, 512, 512]⟩
abbrev S5x512x512 : Shape := ⟨3, ![5, 512, 512]⟩
abbrev S8x128 : Shape := ⟨2, ![8, 128]⟩
abbrev S4 : Shape := ⟨1, ![4]⟩
abbrev S8 : Shape := ⟨1, ![8]⟩
abbrev S12 : Shape := ⟨1, ![12]⟩
abbrev S5 : Shape := ⟨1, ![5]⟩
abbrev S_ : Shape := ⟨0, ![]⟩
abbrev S1 : Shape := ⟨1, ![1]⟩
abbrev S1x512x512 : Shape := ⟨3, ![1, 512, 512]⟩
abbrev S512x512 : Shape := ⟨2, ![512, 512]⟩
abbrev S1x512x2048 : Shape := ⟨3, ![1, 512, 2048]⟩
abbrev S1x1x1 : Shape := ⟨3, ![1, 1, 1]⟩
abbrev S128 : Shape := ⟨1, ![128]⟩
abbrev S1x128 : Shape := ⟨2, ![1, 128]⟩
abbrev S1x8x128 : Shape := ⟨3, ![1, 8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x512, .f32⟩
  | .hbm, ⟨1, _⟩ => ⟨S4096x2048, .f32⟩
  | .hbm, ⟨2, _⟩ => ⟨S512x2048, .f32⟩
  | .local _ .vmem, ⟨0, _⟩ => ⟨S512x2048, .f32⟩
  | .local _ .vmem, ⟨1, _⟩ => ⟨S4x512x512, .f32⟩
  | .local _ .vmem, ⟨2, _⟩ => ⟨S8x512x512, .bf16⟩
  | .local _ .vmem, ⟨3, _⟩ => ⟨S8x512x512, .bf16⟩
  | .local _ .vmem, ⟨4, _⟩ => ⟨S5x512x512, .bf16⟩
  | .local _ .vmem, ⟨5, _⟩ => ⟨S4096x2048, .f32⟩
  | .local _ .vmem, ⟨6, _⟩ => ⟨S8x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  (ofTc nBuf bufTy 1 54 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v7 : BitVec 32 := Scalar.xori v2 c1_i32_1
  let c1_i32_3 : BitVec 32 := 1#32
  let v8 : BitVec 32 := Scalar.muli v7 c1_i32_3
  let v9 : BitVec 32 := Scalar.addi c0_i32 v8
  v9.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_4 : BitVec 32 := 3#32
  let v10 : BitVec 32 := Scalar.xori v2 c3_i32_4
  let c1_i32_6 : BitVec 32 := 1#32
  let v11 : BitVec 32 := Scalar.muli v10 c1_i32_6
  let v12 : BitVec 32 := Scalar.addi c0_i32_7 v11
  v12.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_8 : BitVec 32 := 4#32
  let v13 : BitVec 32 := Scalar.xori v2 c4_i32_8
  let c1_i32_10 : BitVec 32 := 1#32
  let v14 : BitVec 32 := Scalar.muli v13 c1_i32_10
  let v15 : BitVec 32 := Scalar.addi c0_i32_11 v14
  v15.toNat
def k0_off1 (d0 : Dev nD) (c2_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v16 : BitVec 32 := Scalar.xori v2 c2_i32
  let c512_i32 : BitVec 32 := 512#32
  let v20 : BitVec 32 := Scalar.muli v16 c512_i32
  let c0_i32_16 : BitVec 32 := 0#32
  ![v20.toNat, 0]
def k0_off2 (d0 : Dev nD) (c0_i32_35 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v44 : BitVec 32 := Scalar.xori v2 c0_i32_35
  ![v44.toNat]
def k0_off3 (d0 : Dev nD) (c0_i32_35 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v44 : BitVec 32 := Scalar.xori v2 c0_i32_35
  let c512_i32_37 : BitVec 32 := 512#32
  let v46 : BitVec 32 := Scalar.muli v44 c512_i32_37
  let c0_i32_38 : BitVec 32 := 0#32
  ![v46.toNat, 0]
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_87 : BitVec 32 := 512#32
  let v112 : BitVec 32 := Scalar.muli v2 c512_i32_87
  let c0_i32_92 : BitVec 32 := 0#32
  ![v112.toNat, 0]
def k0_dev4 (d0 : Dev nD) : Nat :=
  let c0_i32_98 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_97 : BitVec 32 := 1#32
  let v118 : BitVec 32 := Scalar.muli v3 c1_i32_97
  let v119 : BitVec 32 := Scalar.addi c0_i32_98 v118
  v119.toNat
def k0_dev5 (d0 : Dev nD) : Nat :=
  let c0_i32_125 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_124 : BitVec 32 := 1#32
  let v146 : BitVec 32 := Scalar.muli v4 c1_i32_124
  let v147 : BitVec 32 := Scalar.addi c0_i32_125 v146
  v147.toNat
def k0_dev6 (d0 : Dev nD) : Nat :=
  let c0_i32_152 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_151 : BitVec 32 := 1#32
  let v174 : BitVec 32 := Scalar.muli v5 c1_i32_151
  let v175 : BitVec 32 := Scalar.addi c0_i32_152 v174
  v175.toNat
def k0_dev7 (d0 : Dev nD) : Nat :=
  let c0_i32_179 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_178 : BitVec 32 := 1#32
  let v202 : BitVec 32 := Scalar.muli v3 c1_i32_178
  let v203 : BitVec 32 := Scalar.addi c0_i32_179 v202
  v203.toNat
def k0_off5 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_196 : BitVec 32 := 512#32
  let v225 : BitVec 32 := Scalar.muli v2 c512_i32_196
  let c0_i32_197 : BitVec 32 := 0#32
  ![v225.toNat, 0]
def k0_off7 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_202 : BitVec 32 := 512#32
  let v232 : BitVec 32 := Scalar.muli v2 c512_i32_202
  let v233 : Index := Scalar.indexCast v232
  let c0_203 : Index := 0#32
  ![v233.toNat, 0]
def k0_dev8 (d0 : Dev nD) : Nat :=
  let c0_i32_221 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_220 : BitVec 32 := 1#32
  let v245 : BitVec 32 := Scalar.muli v4 c1_i32_220
  let v246 : BitVec 32 := Scalar.addi c0_i32_221 v245
  v246.toNat
def k0_dev9 (d0 : Dev nD) : Nat :=
  let c0_i32_241 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_240 : BitVec 32 := 1#32
  let v263 : BitVec 32 := Scalar.muli v3 c1_i32_240
  let v264 : BitVec 32 := Scalar.addi c0_i32_241 v263
  v264.toNat
def k0_dev10 (d0 : Dev nD) : Nat :=
  let c0_i32_261 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_260 : BitVec 32 := 1#32
  let v281 : BitVec 32 := Scalar.muli v5 c1_i32_260
  let v282 : BitVec 32 := Scalar.addi c0_i32_261 v281
  v282.toNat
def k0_dev11 (d0 : Dev nD) : Nat :=
  let c0_i32_282 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_281 : BitVec 32 := 1#32
  let v303 : BitVec 32 := Scalar.muli v3 c1_i32_281
  let v304 : BitVec 32 := Scalar.addi c0_i32_282 v303
  v304.toNat
def k0_dev12 (d0 : Dev nD) : Nat :=
  let c0_i32_302 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_301 : BitVec 32 := 1#32
  let v325 : BitVec 32 := Scalar.muli v5 c1_i32_301
  let v326 : BitVec 32 := Scalar.addi c0_i32_302 v325
  v326.toNat
def k0_dev13 (d0 : Dev nD) : Nat :=
  let c0_i32_321 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_320 : BitVec 32 := 1#32
  let v343 : BitVec 32 := Scalar.muli v4 c1_i32_320
  let v344 : BitVec 32 := Scalar.addi c0_i32_321 v343
  v344.toNat
def k0_dev14 (d0 : Dev nD) : Nat :=
  let c0_i32_341 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_340 : BitVec 32 := 1#32
  let v365 : BitVec 32 := Scalar.muli v4 c1_i32_340
  let v366 : BitVec 32 := Scalar.addi c0_i32_341 v365
  v366.toNat
def k0_off8 (d0 : Dev nD) (c2_i32_356 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v383 : BitVec 32 := Scalar.xori v2 c2_i32_356
  let c512_i32_366 : BitVec 32 := 512#32
  let v394 : BitVec 32 := Scalar.muli v383 c512_i32_366
  let v395 : Index := Scalar.indexCast v394
  let c0_367 : Index := 0#32
  ![v395.toNat, 0]
def k0_dev15 (d0 : Dev nD) : Nat :=
  let c0_i32_411 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_410 : BitVec 32 := 1#32
  let v433 : BitVec 32 := Scalar.muli v5 c1_i32_410
  let v434 : BitVec 32 := Scalar.addi c0_i32_411 v433
  v434.toNat
def k0_off9 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v648 : Index := Scalar.indexCast v2
  let c0_652 : Index := 0#32
  ![v648.toNat, 0]
def k0_off10 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_658 : BitVec 32 := 0#32
  ![v2.toNat, 0]
def k0_dev16 (d0 : Dev nD) : Nat :=
  let c0_i32_657 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_653 : BitVec 32 := 1#32
  let v652 : BitVec 32 := Scalar.addi v2 c1_i32_653
  let c8_i32_654 : BitVec 32 := 8#32
  let v653 : BitVec 32 := Scalar.remsi v652 c8_i32_654
  let c1_i32_656 : BitVec 32 := 1#32
  let v654 : BitVec 32 := Scalar.muli v653 c1_i32_656
  let v655 : BitVec 32 := Scalar.addi c0_i32_657 v654
  v655.toNat
def k0_dev17 (d0 : Dev nD) : Nat :=
  let c0_i32_664 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_660 : BitVec 32 := 2#32
  let v664 : BitVec 32 := Scalar.addi v2 c2_i32_660
  let c8_i32_661 : BitVec 32 := 8#32
  let v665 : BitVec 32 := Scalar.remsi v664 c8_i32_661
  let c1_i32_663 : BitVec 32 := 1#32
  let v666 : BitVec 32 := Scalar.muli v665 c1_i32_663
  let v667 : BitVec 32 := Scalar.addi c0_i32_664 v666
  v667.toNat
def k0_dev18 (d0 : Dev nD) : Nat :=
  let c0_i32_671 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_667 : BitVec 32 := 3#32
  let v676 : BitVec 32 := Scalar.addi v2 c3_i32_667
  let c8_i32_668 : BitVec 32 := 8#32
  let v677 : BitVec 32 := Scalar.remsi v676 c8_i32_668
  let c1_i32_670 : BitVec 32 := 1#32
  let v678 : BitVec 32 := Scalar.muli v677 c1_i32_670
  let v679 : BitVec 32 := Scalar.addi c0_i32_671 v678
  v679.toNat
def k0_dev19 (d0 : Dev nD) : Nat :=
  let c0_i32_678 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_674 : BitVec 32 := 4#32
  let v688 : BitVec 32 := Scalar.addi v2 c4_i32_674
  let c8_i32_675 : BitVec 32 := 8#32
  let v689 : BitVec 32 := Scalar.remsi v688 c8_i32_675
  let c1_i32_677 : BitVec 32 := 1#32
  let v690 : BitVec 32 := Scalar.muli v689 c1_i32_677
  let v691 : BitVec 32 := Scalar.addi c0_i32_678 v690
  v691.toNat
def k0_dev20 (d0 : Dev nD) : Nat :=
  let c0_i32_685 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_681 : BitVec 32 := 5#32
  let v700 : BitVec 32 := Scalar.addi v2 c5_i32_681
  let c8_i32_682 : BitVec 32 := 8#32
  let v701 : BitVec 32 := Scalar.remsi v700 c8_i32_682
  let c1_i32_684 : BitVec 32 := 1#32
  let v702 : BitVec 32 := Scalar.muli v701 c1_i32_684
  let v703 : BitVec 32 := Scalar.addi c0_i32_685 v702
  v703.toNat
def k0_dev21 (d0 : Dev nD) : Nat :=
  let c0_i32_692 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_688 : BitVec 32 := 6#32
  let v712 : BitVec 32 := Scalar.addi v2 c6_i32_688
  let c8_i32_689 : BitVec 32 := 8#32
  let v713 : BitVec 32 := Scalar.remsi v712 c8_i32_689
  let c1_i32_691 : BitVec 32 := 1#32
  let v714 : BitVec 32 := Scalar.muli v713 c1_i32_691
  let v715 : BitVec 32 := Scalar.addi c0_i32_692 v714
  v715.toNat
def k0_dev22 (d0 : Dev nD) : Nat :=
  let c0_i32_699 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_695 : BitVec 32 := 7#32
  let v724 : BitVec 32 := Scalar.addi v2 c7_i32_695
  let c8_i32_696 : BitVec 32 := 8#32
  let v725 : BitVec 32 := Scalar.remsi v724 c8_i32_696
  let c1_i32_698 : BitVec 32 := 1#32
  let v726 : BitVec 32 := Scalar.muli v725 c1_i32_698
  let v727 : BitVec 32 := Scalar.addi c0_i32_699 v726
  v727.toNat
def k0_off11 (d0 : Dev nD) (c1_i32_702 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v736 : BitVec 32 := Scalar.addi v2 c1_i32_702
  let c8_i32_703 : BitVec 32 := 8#32
  let v737 : BitVec 32 := Scalar.remsi v736 c8_i32_703
  ![v737.toNat]
def k0_off12 (d0 : Dev nD) (c1_i32_702 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v736 : BitVec 32 := Scalar.addi v2 c1_i32_702
  let c8_i32_703 : BitVec 32 := 8#32
  let v737 : BitVec 32 := Scalar.remsi v736 c8_i32_703
  let c0_i32_707 : BitVec 32 := 0#32
  ![v737.toNat, 0]
abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1x4096x2048 : Shape := ⟨3, ![1, 4096, 2048]⟩
abbrev S1 : Shape := ⟨1, ![1]⟩
abbrev S1x1x1 : Shape := ⟨3, ![1, 1, 1]⟩

abbrev nBuf : Space → Nat
  | .hbm => 3
  | .vmem => 3
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .local _ .vmem, ⟨0, _⟩ => ⟨S4096x4096, .f32⟩
  | .local _ .vmem, ⟨1, _⟩ => ⟨S4096x2048, .f32⟩
  | .local _ .vmem, ⟨2, _⟩ => ⟨S4096x2048, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.KernelIdeal.Geom.lean ====
/-
The kernel's devices, semaphores and memory regions under names of their own, and the printed
expressions for them shown equal to those names.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Transfers
public import Idealize.ShloMosaic.Lib.Ring
public import Idealize.ShloMosaic.Lib.Tactic

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Devices -/

set_option backward.proofsInPublic true in
/-- The device whose number differs from `c`'s in the bits of `v`. -/
def px (v : ℕ) (c : Dev nD) : Dev nD := ⟨(c.val ^^^ v) % 8, Nat.mod_lt _ (by decide)⟩
set_option backward.proofsInPublic true in
/-- The device `d` places after `c` around the ring. -/
def rot (d : ℕ) (c : Dev nD) : Dev nD := ⟨(c.val + d) % 8, Nat.mod_lt _ (by decide)⟩

theorem px_px_fin : ∀ (a b : Fin 8) (c : Dev nD), px a.val (px b.val c) = px (a.val ^^^ b.val) c := by decide +kernel
theorem px_px {a b : ℕ} (ha : a < 8) (hb : b < 8) (c : Dev nD) : px a (px b c) = px (a ^^^ b) c :=
  px_px_fin ⟨a, ha⟩ ⟨b, hb⟩ c
theorem px_zero (c : Dev nD) : px 0 c = c := by revert c; decide +kernel

/-- Flipping the bits of `v`, as a permutation of the devices. -/
def pxE (v : Fin 8) : Dev nD ≃ Dev nD where
  toFun := px v.val
  invFun := px v.val
  left_inv c := by revert c v; decide +kernel
  right_inv c := by revert c v; decide +kernel

/-- From `c`, every device is reached by one choice of bits. -/
def vE (c : Dev nD) : Fin 8 ≃ Dev nD where
  toFun v := px v.val c
  invFun e := px c.val e
  left_inv v := by revert c v; decide +kernel
  right_inv e := by revert c e; decide +kernel

/-- From `c`, every device is reached by one number of places around the ring. -/
def rE (c : Dev nD) : Fin 8 ≃ Dev nD where
  toFun d := rot d.val c
  invFun e := ⟨(e.val + 8 - c.val) % 8, Nat.mod_lt _ (by decide)⟩
  left_inv v := by revert c v; decide +kernel
  right_inv e := by revert c e; decide +kernel

theorem dev1_eq : ∀ c : Dev nD, (⟨k0_dev1 c, k0_dev1_lt c⟩ : Dev nD) = px 1 c := by decide +kernel
theorem dev2_eq : ∀ c : Dev nD, (⟨k0_dev2 c, k0_dev2_lt c⟩ : Dev nD) = px 3 c := by decide +kernel
theorem dev3_eq : ∀ c : Dev nD, (⟨k0_dev3 c, k0_dev3_lt c⟩ : Dev nD) = px 4 c := by decide +kernel
theorem dev4_eq : ∀ c : Dev nD, (⟨k0_dev4 c, k0_dev4_lt c⟩ : Dev nD) = px 1 c := by decide +kernel
theorem dev5_eq : ∀ c : Dev nD, (⟨k0_dev5 c, k0_dev5_lt c⟩ : Dev nD) = px 3 c := by decide +kernel
theorem dev6_eq : ∀ c : Dev nD, (⟨k0_dev6 c, k0_dev6_lt c⟩ : Dev nD) = px 4 c := by decide +kernel
theorem dev7_eq : ∀ c : Dev nD, (⟨k0_dev7 c, k0_dev7_lt c⟩ : Dev nD) = px 1 c := by decide +kernel
theorem dev8_eq : ∀ c : Dev nD, (⟨k0_dev8 c, k0_dev8_lt c⟩ : Dev nD) = px 3 c := by decide +kernel
theorem dev9_eq : ∀ c : Dev nD, (⟨k0_dev9 c, k0_dev9_lt c⟩ : Dev nD) = px 1 c := by decide +kernel
theorem dev10_eq : ∀ c : Dev nD, (⟨k0_dev10 c, k0_dev10_lt c⟩ : Dev nD) = px 4 c := by decide +kernel
theorem dev11_eq : ∀ c : Dev nD, (⟨k0_dev11 c, k0_dev11_lt c⟩ : Dev nD) = px 1 c := by decide +kernel
theorem dev12_eq : ∀ c : Dev nD, (⟨k0_dev12 c, k0_dev12_lt c⟩ : Dev nD) = px 4 c := by decide +kernel
theorem dev13_eq : ∀ c : Dev nD, (⟨k0_dev13 c, k0_dev13_lt c⟩ : Dev nD) = px 3 c := by decide +kernel
theorem dev14_eq : ∀ c : Dev nD, (⟨k0_dev14 c, k0_dev14_lt c⟩ : Dev nD) = px 3 c := by decide +kernel
theorem dev15_eq : ∀ c : Dev nD, (⟨k0_dev15 c, k0_dev15_lt c⟩ : Dev nD) = px 4 c := by decide +kernel
theorem dev16_eq : ∀ c : Dev nD, (⟨k0_dev16 c, k0_dev16_lt c⟩ : Dev nD) = rot 1 c := by decide +kernel
theorem dev17_eq : ∀ c : Dev nD, (⟨k0_dev17 c, k0_dev17_lt c⟩ : Dev nD) = rot 2 c := by decide +kernel
theorem dev18_eq : ∀ c : Dev nD, (⟨k0_dev18 c, k0_dev18_lt c⟩ : Dev nD) = rot 3 c := by decide +kernel
theorem dev19_eq : ∀ c : Dev nD, (⟨k0_dev19 c, k0_dev19_lt c⟩ : Dev nD) = rot 4 c := by decide +kernel
theorem dev20_eq : ∀ c : Dev nD, (⟨k0_dev20 c, k0_dev20_lt c⟩ : Dev nD) = rot 5 c := by decide +kernel
theorem dev21_eq : ∀ c : Dev nD, (⟨k0_dev21 c, k0_dev21_lt c⟩ : Dev nD) = rot 6 c := by decide +kernel
theorem dev22_eq : ∀ c : Dev nD, (⟨k0_dev22 c, k0_dev22_lt c⟩ : Dev nD) = rot 7 c := by decide +kernel

/-! ## Semaphores -/

/-- The runtime's barrier semaphore. -/
abbrev barS : Sem sig := (SemArray.scalar (sig.barrier 0 rfl) : Sems sig S_).sem

/-- Element `j` of an array of DMA semaphores, as the kernel names it. -/
abbrev semAt {n : ℕ} (a : DmaSems sig ⟨1, ![n]⟩) (off : Fin 1 → ℕ) (h : ∀ x, off x + S1.size x ≤ (⟨1, ![n]⟩ : Shape).size x) : DmaSem sig :=
  ((a.slice (Rect.unit (s := ⟨1, ![n]⟩) off S1.size h)).squeeze S_ squeezes_S1_S_).sem

theorem semAt_congr {n : ℕ} (a : DmaSems sig ⟨1, ![n]⟩) {off off' : Fin 1 → ℕ} (e : off = off') (h) (h') :
    semAt a off h = semAt a off' h' := by subst e; rfl

theorem one_inb {n : ℕ} (j : Fin n) : ∀ x, (![j.val] : Fin 1 → ℕ) x + S1.size x ≤ (⟨1, ![n]⟩ : Shape).size x := by
  intro x; fin_cases x; show j.val + 1 ≤ n; exact j.isLt

set_option backward.proofsInPublic true in
def xdS (j : Fin 4) : DmaSem sig := ⟨1 + j.val, by have := j.isLt; show _ < 54; omega⟩
set_option backward.proofsInPublic true in
def wdS (j : Fin 8) : DmaSem sig := ⟨5 + j.val, by have := j.isLt; show _ < 54; omega⟩
set_option backward.proofsInPublic true in
def sndS (j : Fin 12) : DmaSem sig := ⟨13 + j.val, by have := j.isLt; show _ < 54; omega⟩
set_option backward.proofsInPublic true in
def frS (j : Fin 8) : DmaSem sig := ⟨25 + j.val, by have := j.isLt; show _ < 54; omega⟩
set_option backward.proofsInPublic true in
def rrS (j : Fin 5) : DmaSem sig := ⟨33 + j.val, by have := j.isLt; show _ < 54; omega⟩
set_option backward.proofsInPublic true in
def asS (j : Fin 8) : DmaSem sig := ⟨38 + j.val, by have := j.isLt; show _ < 54; omega⟩
set_option backward.proofsInPublic true in
def arS (j : Fin 8) : DmaSem sig := ⟨46 + j.val, by have := j.isLt; show _ < 54; omega⟩

theorem xd_eq : ∀ j : Fin 4, semAt cc0_scratch6 ![j.val] (one_inb j) = xdS j := by decide +kernel
theorem wd_eq : ∀ j : Fin 8, semAt cc0_scratch7 ![j.val] (one_inb j) = wdS j := by decide +kernel
theorem snd_eq : ∀ j : Fin 12, semAt cc0_scratch8 ![j.val] (one_inb j) = sndS j := by decide +kernel
theorem fr_eq : ∀ j : Fin 8, semAt cc0_scratch9 ![j.val] (one_inb j) = frS j := by decide +kernel
theorem rr_eq : ∀ j : Fin 5, semAt cc0_scratch10 ![j.val] (one_inb j) = rrS j := by decide +kernel
theorem as_eq : ∀ j : Fin 8, semAt cc0_scratch11 ![j.val] (one_inb j) = asS j := by decide +kernel
theorem ar_eq : ∀ j : Fin 8, semAt cc0_scratch12 ![j.val] (one_inb j) = arS j := by decide +kernel

/-! ## Offsets the kernel computes -/

theorem off1_eq : ∀ (c : Dev nD) (v : Fin 8), k0_off1 c (BitVec.ofNat 32 v.val) = ![512 * (px v.val c).val, 0] := by decide +kernel
theorem off2_eq : ∀ (c : Dev nD) (v : Fin 8), k0_off2 c (BitVec.ofNat 32 v.val) = ![(px v.val c).val] := by decide +kernel
theorem off3_eq : ∀ (c : Dev nD) (v : Fin 8), k0_off3 c (BitVec.ofNat 32 v.val) = ![512 * (px v.val c).val, 0] := by decide +kernel
theorem off4_eq : ∀ (c : Dev nD), k0_off4 c = ![512 * c.val, 0] := by decide +kernel
theorem off5_eq : ∀ (c : Dev nD), k0_off5 c = ![c.val] := by decide +kernel
theorem off6_eq : ∀ (c : Dev nD), k0_off6 c = ![512 * c.val, 0] := by decide +kernel
theorem off7_eq : ∀ (c : Dev nD), k0_off7 c = ![512 * c.val, 0] := by decide +kernel
theorem off8_eq : ∀ (c : Dev nD) (v : Fin 8), k0_off8 c (BitVec.ofNat 32 v.val) = ![512 * (px v.val c).val, 0] := by decide +kernel
theorem off9_eq : ∀ (c : Dev nD), k0_off9 c = ![c.val, 0] := by decide +kernel
theorem off10_eq : ∀ (c : Dev nD), k0_off10 c = ![c.val, 0] := by decide +kernel
theorem off11_eq : ∀ (c : Dev nD) (v : Fin 8), k0_off11 c (BitVec.ofNat 32 v.val) = ![(rot v.val c).val] := by decide +kernel
theorem off12_eq : ∀ (c : Dev nD) (v : Fin 8), k0_off12 c (BitVec.ofNat 32 v.val) = ![(rot v.val c).val, 0] := by decide +kernel

/-! ## Memory regions -/

abbrev xA : Memref sig .tc .hbm S4096x512 .f32 := Memref.whole main_arg0
abbrev wA : Memref sig .tc .hbm S4096x2048 .f32 := Memref.whole main_arg1
abbrev oM : Memref sig .tc .vmem S512x2048 .f32 := Memref.whole cc0_stg0_0
abbrev xlM : Memref sig .tc .vmem S4x512x512 .f32 := Memref.whole cc0_scratch0
abbrev sgM : Memref sig .tc .vmem S8x512x512 .bf16 := Memref.whole cc0_scratch1
abbrev rcM : Memref sig .tc .vmem S8x512x512 .bf16 := Memref.whole cc0_scratch2
abbrev rlM : Memref sig .tc .vmem S5x512x512 .bf16 := Memref.whole cc0_scratch3
abbrev wvM : Memref sig .tc .vmem S4096x2048 .f32 := Memref.whole cc0_scratch4
abbrev amM : Memref sig .tc .vmem S8x128 .f32 := Memref.whole cc0_scratch5

/-- The shape of `n` blocks of 512 by 512. -/
abbrev Sn (n : ℕ) : Shape := ⟨3, ![n, 512, 512]⟩

theorem slot_inb {n : ℕ} (j : Fin n) : ∀ a, (![j.val, 0, 0] : Fin 3 → ℕ) a + S1x512x512.size a ≤ (Sn n).size a := by
  intro a; fin_cases a
  · show j.val + 1 ≤ n; exact j.isLt
  · show 0 + 512 ≤ 512; exact le_rfl
  · show 0 + 512 ≤ 512; exact le_rfl

/-- Block `j` of `n`. -/
abbrev slotR (n : ℕ) (j : Fin n) : Rect (Sn n) := Rect.unit (s := Sn n) ![j.val, 0, 0] S1x512x512.size (slot_inb j)
abbrev slotM {n : ℕ} {e : EltTy} (m : Memref sig .tc .vmem (Sn n) e) (j : Fin n) : Memref sig .tc .vmem S512x512 e :=
  (m.slice (slotR n j) (fun _ => rfl)).squeeze S512x512 squeezes_S1x512x512_S512x512

theorem slot_disj (n : ℕ) : ∀ t t' : Fin n, t ≠ t' → Disjoint (slotR n t).set (slotR n t').set := fun t t' h =>
  Rect.unit_disjoint 0 (by
    have : t.val ≠ t'.val := fun e => h (Fin.ext e)
    show t.val + 1 ≤ t'.val ∨ t'.val + 1 ≤ t.val; omega)
theorem slot_cov (n : ℕ) : (Finset.univ : Finset (Fin n)).biUnion (fun t => (slotR n t).set) = Finset.univ := by
  ext i
  simp only [Finset.mem_biUnion, Finset.mem_univ, true_and, iff_true]
  refine ⟨⟨(i 0).val, (i 0).isLt⟩, Rect.mem_set_unit.mpr fun a => ?_⟩
  fin_cases a
  · exact ⟨le_rfl, Nat.lt_succ_self _⟩
  · exact ⟨Nat.zero_le _, by have := (i 1).isLt; exact lt_of_lt_of_le this (by show 512 ≤ 0 + 512; omega)⟩
  · exact ⟨Nat.zero_le _, by have := (i 2).isLt; exact lt_of_lt_of_le this (by show 512 ≤ 0 + 512; omega)⟩

theorem blk_inb {n k : ℕ} (e : Dev nD) (h : n = 4096) : ∀ a, (![512 * e.val, 0] : Fin 2 → ℕ) a + (⟨2, ![512, k]⟩ : Shape).size a ≤ (⟨2, ![n, k]⟩ : Shape).size a := by
  subst h
  intro a; fin_cases a
  · show 512 * e.val + 512 ≤ 4096; have : e.val < 8 := e.isLt; omega
  · show 0 + k ≤ k; omega

/-- The 512 rows of device `e` of a matrix of 4096 rows. -/
abbrev xR (e : Dev nD) : Rect S4096x512 := Rect.unit (s := S4096x512) ![512 * e.val, 0] S512x512.size (blk_inb e rfl)
abbrev wR (e : Dev nD) : Rect S4096x2048 := Rect.unit (s := S4096x2048) ![512 * e.val, 0] S512x2048.size (blk_inb e rfl)
abbrev xblk (e : Dev nD) : Memref sig .tc .hbm S512x512 .f32 := xA.slice (xR e) (fun _ => rfl)
abbrev wblk (e : Dev nD) : Memref sig .tc .hbm S512x2048 .f32 := wA.slice (wR e) (fun _ => rfl)
abbrev wvblk (e : Dev nD) : Memref sig .tc .vmem S512x2048 .f32 := wvM.slice (wR e) (fun _ => rfl)

theorem row_inb (e : Dev nD) : ∀ a, (![e.val, 0] : Fin 2 → ℕ) a + S1x128.size a ≤ S8x128.size a := by revert e; decide +kernel
/-- Device `e`'s row of the maxima. -/
abbrev amR (e : Dev nD) : Rect S8x128 := Rect.unit (s := S8x128) ![e.val, 0] S1x128.size (row_inb e)
abbrev rowM (e : Dev nD) : Memref sig .tc .vmem S128 .f32 := (amM.slice (amR e) (fun _ => rfl)).squeeze S128 squeezes_S1x128_S128

theorem xR_disj : ∀ t t' : Dev nD, t ≠ t' → Disjoint (xR t).set (xR t').set := fun t t' h =>
  Idealize.ShloMosaic.Ring.lead_disjoint (s := S4096x512) (NB := 8) 0 512 (fun e : Fin 8 => ![512 * e.val, 0]) S512x512.size (fun e => blk_inb e rfl)
    (fun _ => rfl) rfl t t' h
theorem xR_cov : (Finset.univ : Finset (Dev nD)).biUnion (fun t => (xR t).set) = Finset.univ :=
  Idealize.ShloMosaic.Ring.lead_cover (s := S4096x512) (NB := 8) 0 512 (fun e : Fin 8 => ![512 * e.val, 0]) S512x512.size (fun e => blk_inb e rfl)
    (fun _ => rfl) (by intro b a ha; fin_cases a; · exact absurd rfl ha
                       rfl) rfl (by decide) (by decide)
theorem wR_disj : ∀ t t' : Dev nD, t ≠ t' → Disjoint (wR t).set (wR t').set := fun t t' h =>
  Idealize.ShloMosaic.Ring.lead_disjoint (s := S4096x2048) (NB := 8) 0 512 (fun e : Fin 8 => ![512 * e.val, 0]) S512x2048.size (fun e => blk_inb e rfl)
    (fun _ => rfl) rfl t t' h
theorem wR_cov : (Finset.univ : Finset (Dev nD)).biUnion (fun t => (wR t).set) = Finset.univ :=
  Idealize.ShloMosaic.Ring.lead_cover (s := S4096x2048) (NB := 8) 0 512 (fun e : Fin 8 => ![512 * e.val, 0]) S512x2048.size (fun e => blk_inb e rfl)
    (fun _ => rfl) (by intro b a ha; fin_cases a; · exact absurd rfl ha
                       rfl) rfl (by decide) (by decide)
theorem amR_disj : ∀ t t' : Dev nD, t ≠ t' → Disjoint (amR t).set (amR t').set := fun t t' h =>
  Rect.unit_disjoint 0 (by
    have : t.val ≠ t'.val := fun e => h (Fin.ext e)
    show t.val + 1 ≤ t'.val ∨ t'.val + 1 ≤ t.val; omega)
theorem amR_cov : (Finset.univ : Finset (Dev nD)).biUnion (fun t => (amR t).set) = Finset.univ := by
  ext i
  simp only [Finset.mem_biUnion, Finset.mem_univ, true_and, iff_true]
  refine ⟨⟨(i 0).val, (i 0).isLt⟩, Rect.mem_set_unit.mpr fun a => ?_⟩
  fin_cases a
  · exact ⟨le_rfl, Nat.lt_succ_self _⟩
  · exact ⟨Nat.zero_le _, by have := (i 1).isLt; exact lt_of_lt_of_le this (by show 128 ≤ 0 + 128; omega)⟩

/-- A slice at offsets proved equal is the same slice. -/
theorem slice_congr {sp : Space} {s : Shape} {e : EltTy} (m : Memref sig .tc sp s e) {off off' size : Fin s.rank → ℕ} (h : off = off') (i) (i') :
    m.slice (Rect.unit off size i) (fun _ => rfl) = m.slice (Rect.unit off' size i') (fun _ => rfl) := by subst h; rfl
theorem rect_congr {s : Shape} {off off' size : Fin s.rank → ℕ} (h : off = off') (i) (i') :
    Rect.unit (s := s) off size i = Rect.unit off' size i' := by subst h; rfl

/-- What each transfer between devices lands, credits its semaphores. -/
abbrev Nslot : ℕ := (slotM rcM 0).view.dmaCredit
abbrev Nrow : ℕ := (rowM 0).view.dmaCredit
theorem Nslot_pos : 0 < Nslot := View.dmaCredit_pos _ (by decide)
theorem Nrow_pos : 0 < Nrow := View.dmaCredit_pos _ (by decide)
theorem credit_rc (j : Fin 8) : (slotM rcM j).view.dmaCredit = Nslot := rfl
theorem credit_rl (j : Fin 5) : (slotM rlM j).view.dmaCredit = Nslot := rfl
theorem credit_row (j : Dev nD) : (rowM j).view.dmaCredit = Nrow := rfl

end Cert.KernelIdeal.Pf

end
-- ==== Proof.KernelIdeal.Sched.lean ====
/-
The exchange as a schedule: which semaphore cells the devices share, what every unit on one of them
hands over, what each device owes, and in which order waits may depend on one another.
-/
module

public import proofs.«01_k».proof.Proof.KernelIdeal.Geom
public import Mathlib.Tactic.DeriveFintype

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 3)
abbrev UU : Type := UR sig nD τ × (UB × Counters)

local notation "𝕄" => MT nD τ sig Unit (Elt F) ℕ UU ℕ

/-- The grid's own bookkeeping. -/
abbrev EP : Emb (UR sig nD τ) (MT nD τ sig Unit (Elt F) ℕ UU ℕ) := embL
/-- The bookkeeping of the exchange. -/
def ER : Emb UB (MT nD τ sig Unit (Elt F) ℕ UU ℕ) := (Emb.inl : Emb UB (UB × Counters)).trans embR

instance ER_lands : (ER (F := F)).LandsIn (upEmb : UEmb _ 𝕄) := by unfold ER; infer_instance

variable (m : (ℓ : Loc nD τ sig) → Buf (Elt F) ℓ)

/-! ## Contents -/

/-- Device `o`'s block of its columns of the left matrix that device `d` multiplies. -/
def xraw (o d : Dev nD) : S512x512.Idx → Elt F .f32 :=
  fun j => (m ((o : Thread nD τ).loc main_arg0)) ((xR d).emb j)
/-- The same, rounded for the journey. -/
def xb (o d : Dev nD) : S512x512.Idx → Elt F .bf16 := truncf .bf16 (xraw m o d) bitsLt_bf16_f32

/-- A region of device `c` held with contents that do not matter. -/
def anyo {sp : Space} {s : Shape} {e : EltTy} (c : Dev nD) (r : Memref sig .tc sp s e) : sProp 𝕄 :=
  iprop(∃ X, owns (c : Thread nD τ) r fullShare X)

instance anyo_storable {sp : Space} {s : Shape} {e : EltTy} (c : Dev nD) (r : Memref sig .tc sp s e) :
    BI.Storable (upEmb : UEmb _ 𝕄) (anyo (F := F) c r) := by unfold anyo; infer_instance

/-! ## The sends of blocks -/

/-- Send `i` goes to the device whose number differs by these bits; -/
def pp : Fin 12 → ℕ := ![4, 1, 3, 4, 1, 3, 1, 4, 1, 4, 3, 3]
/-- its block comes from the device that differs from the sender by these bits, -/
def oo : Fin 12 → ℕ := ![2, 0, 0, 0, 0, 1, 4, 3, 0, 0, 1, 0]
/-- and is for the one that differs from the sender by these. -/
def ff : Fin 12 → ℕ := ![4, 2, 7, 5, 6, 3, 1, 4, 1, 4, 7, 3]

/-- Where send `i` reads, on the sender. -/
def srcM : Fin 12 → Memref sig .tc .vmem S512x512 .bf16 :=
  ![slotM rlM 4, slotM sgM 0, slotM sgM 1, slotM sgM 2, slotM sgM 3, slotM rlM 0, slotM rlM 1, slotM rlM 2, slotM sgM 5, slotM sgM 6, slotM rlM 3, slotM sgM 7]
/-- Where send `i` lands, on the receiver. -/
def dstM : Fin 12 → Memref sig .tc .vmem S512x512 .bf16 :=
  ![slotM rcM 6, slotM rlM 0, slotM rlM 2, slotM rlM 1, slotM rlM 3, slotM rcM 2, slotM rcM 5, slotM rcM 7, slotM rcM 1, slotM rcM 4, slotM rlM 4, slotM rcM 3]
/-- The semaphore that send `i` credits on the receiver. -/
def rcvS : Fin 12 → DmaSem sig :=
  ![frS 6, rrS 0, rrS 2, rrS 1, rrS 3, frS 2, frS 5, frS 7, frS 1, frS 4, rrS 4, frS 3]

theorem dst_credit (i : Fin 12) : (dstM i).view.dmaCredit = Nslot := by fin_cases i <;> rfl
theorem src_credit (i : Fin 12) : (srcM i).view.dmaCredit = Nslot := by fin_cases i <;> rfl

/-- The block that send `i` carries away from `c`, -/
def sx (i : Fin 12) (c : Dev nD) : S512x512.Idx → Elt F .bf16 := xb m (px (oo i) c) (px (ff i) c)
/-- and the right to report the maximum back, which travels with it. -/
def sperm (i : Fin 12) (c : Dev nD) : sProp 𝕄 := anyo (px (oo i) c) (rowM (px (ff i) c))

/-- The three partners of a device, -/
def bp : Fin 3 → ℕ := ![1, 3, 4]
/-- and the sends that go to each. -/
def sid : Fin 3 → Fin 4 → Fin 12 := ![![1, 4, 6, 8], ![2, 5, 10, 11], ![3, 7, 9, 0]]

instance sperm_storable (i : Fin 12) (c : Dev nD) : BI.Storable (upEmb : UEmb _ 𝕄) (sperm (F := F) i c) := by unfold sperm; infer_instance

/-! ## The maxima -/

/-- Half of what is left after `n` halvings, and what is left. -/
def rr : ℕ → PosShare TreeShare := fun n => Nat.rec fullShare (fun _ q => q.right) n
def qs (n : ℕ) : PosShare TreeShare := (rr n).left

/-! ## Cells -/

/-- The kinds of semaphore cell that take part in the exchange. -/
inductive Kk | bar | snd (i : Fin 12) | rcv (i : Fin 12) | asd (d : Fin 7) | arv (j : Fin 8)
  deriving DecidableEq, Fintype

def csem : Kk → SemLoc sig
  | .bar => .reg barS
  | .snd i => .dma (sndS i)
  | .rcv i => .dma (rcvS i)
  | .asd d => .dma (asS d.succ)
  | .arv j => .dma (arS j)

theorem csem_inj : Function.Injective csem := by
  have h : ∀ a b : Kk, csem a = csem b → a = b := by decide +kernel
  exact h

abbrev kcell (ck : Dev nD × Kk) : GSem nD τ sig := ((ck.1 : Thread nD τ), csem ck.2)

theorem kcell_inj : Function.Injective kcell := by
  rintro ⟨c, k⟩ ⟨c', k'⟩ h
  have h1 : (c : Thread nD τ) = (c' : Thread nD τ) := congrArg Prod.fst h
  have h2 : csem k = csem k' := congrArg Prod.snd h
  have h3 : c = c' := congrArg Prod.fst h1
  rw [h3, csem_inj h2]

open Classical in
/-- The kind of a semaphore. -/
def kOf (s : SemLoc sig) : Option Kk := if h : ∃ k, csem k = s then some h.choose else none
theorem kOf_csem (k : Kk) : kOf (csem k) = some k := by
  have h : ∃ k', csem k' = csem k := ⟨k, rfl⟩
  unfold kOf; rw [dif_pos h, csem_inj h.choose_spec]
theorem kOf_none {s : SemLoc sig} (h : ∀ k, csem k ≠ s) : kOf s = none := by
  unfold kOf; rw [dif_neg (fun ⟨k, hk⟩ => h k hk)]

/-! ## The schedule -/

def amt : Kk → ℕ
  | .bar => 1
  | .snd _ => Nslot
  | .rcv _ => Nslot
  | .asd _ => Nrow
  | .arv _ => Nrow
theorem amt_pos (k : Kk) : 0 < amt k := by
  cases k
  · exact Nat.one_pos
  · exact Nslot_pos
  · exact Nslot_pos
  · exact Nrow_pos
  · exact Nrow_pos

def dutK (c : Dev nD) : Kk → Finset (Fin 3)
  | .bar => Finset.univ
  | .snd _ => {0}
  | .rcv _ => {0}
  | .asd _ => {0}
  | .arv j => if j = c then ∅ else {0}

variable (lam : Dev nD → S128.Idx → Elt F .f32)

/-- What arrives with send `i` at `c`. -/
def rcvPay (i : Fin 12) (c : Dev nD) : sProp 𝕄 :=
  iprop(owns (c : Thread nD τ) (dstM i) fullShare (sx m i (px (pp i) c)) ∗ sperm i (px (pp i) c))
/-- What partner `j`'s signal hands `c`: the regions of the partner into which `c` sends. -/
def barPay (j : Fin 3) (c : Dev nD) : sProp 𝕄 :=
  iprop(anyo (px (bp j) c) (dstM (sid j 0)) ∗ anyo (px (bp j) c) (dstM (sid j 1)) ∗ anyo (px (bp j) c) (dstM (sid j 2)) ∗ anyo (px (bp j) c) (dstM (sid j 3)))

def payK (c : Dev nD) : Kk → Fin 3 → sProp 𝕄
  | .bar, j => barPay j c
  | .snd i, _ => anyo c (srcM i)
  | .rcv i, _ => rcvPay m i c
  | .asd d, _ => owns (c : Thread nD τ) (rowM c) (qs d.val) (lam c)
  | .arv j, _ => owns (c : Thread nD τ) (rowM j) fullShare (lam j)

instance payK_storable (c : Dev nD) (k : Kk) (d : Fin 3) : BI.Storable (upEmb : UEmb _ 𝕄) (payK (F := F) m lam c k d) := by
  cases k <;> dsimp only [payK, barPay, rcvPay] <;> infer_instance

def payO (c : Dev nD) : Option Kk → Fin 3 → sProp 𝕄
  | some k, d => payK m lam c k d
  | none, _ => iprop(emp)

instance payO_storable (c : Dev nD) (k : Option Kk) (d : Fin 3) : BI.Storable (upEmb : UEmb _ 𝕄) (payO (F := F) m lam c k d) := by
  cases k <;> dsimp only [payO] <;> infer_instance

def amtO : Option Kk → ℕ
  | some k => amt k
  | none => 1
def dutO (c : Dev nD) : Option Kk → Finset (Fin 3)
  | some k => dutK c k
  | none => ∅

/-- One round on every cell. -/
def Rd : Rounds.Schedule (GSem nD τ sig) (Fin 3) 𝕄 where
  duties g r := if r = 0 ∧ g.1.2 = .tc then dutO g.1.1 (kOf g.2) else ∅
  unitless _ := False
  amount g _ _ := amtO (kOf g.2)
  payload g _ d := payO m lam g.1.1 (kOf g.2) d
  amount_pos g _ _ _ := by
    show 0 < amtO (kOf g.2)
    cases kOf g.2 with
    | none => exact Nat.one_pos
    | some k => exact amt_pos k

instance Rd_storable (g : GSem nD τ sig) (r : ℕ) (d : Fin 3) :
    BI.Storable (upEmb : UEmb _ 𝕄) ((Rd (F := F) m lam).payload g r d) := payO_storable m lam _ _ _

section Sched
variable (c : Dev nD) (k : Kk)

theorem duties_k : (Rd (F := F) m lam).duties (kcell (c, k)) 0 = dutK c k := by
  dsimp only [Rd]; rw [if_pos ⟨rfl, rfl⟩, kOf_csem]; rfl
theorem duties_later (g : GSem nD τ sig) : ∀ r, 1 ≤ r → (Rd (F := F) m lam).duties g r = ∅ :=
  fun r hr => by dsimp only [Rd]; rw [if_neg fun h => by omega]
theorem amount_k (d : Fin 3) : (Rd (F := F) m lam).amount (kcell (c, k)) 0 d = amt k := by
  dsimp only [Rd]; rw [kOf_csem]; rfl
theorem payload_k (d : Fin 3) : (Rd (F := F) m lam).payload (kcell (c, k)) 0 d = payK m lam c k d := by
  dsimp only [Rd]; rw [kOf_csem]; rfl
theorem expect_one (h : dutK c k = {0}) : (Rd (F := F) m lam).expect (kcell (c, k)) 0 = amt k := by
  unfold Schedule.expect Schedule.amountOf; rw [duties_k, h, Finset.sum_singleton, amount_k]
theorem expect_bar : (Rd (F := F) m lam).expect (kcell (c, .bar)) 0 = 3 := by
  unfold Schedule.expect Schedule.amountOf
  rw [duties_k, Finset.sum_congr rfl fun d _ => amount_k m lam c .bar d, Finset.sum_const]; rfl
theorem rest_one (h : dutK c k = {0}) :
    bigSep ((Rd (F := F) m lam).duties (kcell (c, k)) 0 \ ∅) (fun d => (Rd (F := F) m lam).payload (kcell (c, k)) 0 d) = payK m lam c k 0 := by
  rw [Finset.sdiff_empty, duties_k, h, bigSep_singleton, payload_k]
theorem rest_bar :
    bigSep ((Rd (F := F) m lam).duties (kcell (c, .bar)) 0 \ ∅) (fun d => (Rd (F := F) m lam).payload (kcell (c, .bar)) 0 d)
      = iprop(barPay 0 c ∗ barPay 1 c ∗ barPay 2 c) := by
  rw [Finset.sdiff_empty, duties_k]
  show bigSep Finset.univ _ = _
  rw [bigSep_univ_eq_bigSepL [0, 1, 2] (by decide) (by decide), bigSepL_cons_cons, bigSepL_cons_cons, bigSepL_singleton,
    payload_k, payload_k, payload_k]
  rfl

end Sched

/-! ## What is owed, and the levels -/

/-- What a device owes that has still to pay the cells of a list, the first of them next. -/
def Owe : List (Dev nD × Kk) → CellTallies nD τ sig Unit
  | [] => 0
  | p :: l => Owe l + tallyAt (kcell p) () (amt p.2)

theorem Owe_pos {l : List (Dev nD × Kk)} {g : GSem nD τ sig} {u : Unit} (h : 0 < Owe l g u) : ∃ p ∈ l, g = kcell p := by
  induction l with
  | nil => exact absurd h (Nat.lt_irrefl 0)
  | cons p l ih =>
    unfold Owe at h
    rw [Pi.add_apply, Finsupp.add_apply, tallyAt_apply] at h
    by_cases hp : g = kcell p
    · exact ⟨p, List.mem_cons_self, hp⟩
    · rw [if_neg (fun h' => hp h'.1), Nat.add_zero] at h
      obtain ⟨p', h1, h2⟩ := ih h
      exact ⟨p', List.mem_cons_of_mem _ h1, h2⟩

def levK : Kk → ℕ
  | .bar => 1
  | .snd _ => 0
  | .rcv i => if i = 0 then 4 else if i.val < 5 then 2 else 3
  | .asd _ => 0
  | .arv _ => 5
def levO : Option Kk → ℕ
  | some k => levK k
  | none => 0

def L (g : GSem nD τ sig) : Finset Unit := if g.1.2 = .tc then {()} else ∅
def lv (g : GSem nD τ sig) (_ : Unit) : ℕ := levO (kOf g.2)

theorem L_of_ne (g : GSem nD τ sig) (h : g.1.2 ≠ .tc) : L g = ∅ := if_neg h
theorem L_tc (c : Dev nD) (sm : SemLoc sig) : L ((c : Thread nD τ), sm) = {()} := if_pos rfl
theorem lv_k (ck : Dev nD × Kk) : lv (kcell ck) () = levK ck.2 := by unfold lv; rw [kOf_csem]; rfl

/-- A wait on a semaphore below everything still owed. -/
theorem mayWait_list (c : Dev nD) (sm : SemLoc sig) (n : ℕ) (hn : lv ((c : Thread nD τ), sm) () = n) (l : List (Dev nD × Kk))
    (h : l.all (fun p => decide (n < levK p.2)) = true) :
    (levAts L lv : sProp 𝕄) ⊢ MayWait (c : Thread nD τ) sm () (Owe l) :=
  MayOwe.of_cut (L := L) (lev := lv) n (fun p hp => by rw [Finset.mem_singleton.mp hp, L_tc]; exact Finset.mem_singleton_self _)
    (fun g u hg => by obtain ⟨p, _, rfl⟩ := Owe_pos hg; exact Finset.mem_singleton_self _)
    (fun p hp => by rw [Finset.mem_singleton.mp hp]; exact hn.le)
    (fun g u hg => by
      obtain ⟨p, hp, rfl⟩ := Owe_pos hg
      obtain rfl : u = () := rfl
      rw [lv_k]; exact of_decide_eq_true (List.all_eq_true.mp h p hp))

/-- What device `c` has to pay, in the order in which it pays. -/
def oAm (c : Dev nD) : List (Dev nD × Kk) :=
  [(rot 1 c, .arv c), (rot 2 c, .arv c), (rot 3 c, .arv c), (rot 4 c, .arv c), (rot 5 c, .arv c), (rot 6 c, .arv c), (rot 7 c, .arv c)]
def oblig (c : Dev nD) : List (Dev nD × Kk) :=
  (px 1 c, .bar) :: (px 3 c, .bar) :: (px 4 c, .bar)
    :: (px (pp 1) c, .rcv 1) :: (px (pp 2) c, .rcv 2) :: (px (pp 3) c, .rcv 3) :: (px (pp 4) c, .rcv 4) :: (px (pp 5) c, .rcv 5) :: (px (pp 6) c, .rcv 6)
    :: (px (pp 7) c, .rcv 7) :: (px (pp 8) c, .rcv 8) :: (px (pp 9) c, .rcv 9) :: (px (pp 10) c, .rcv 10) :: (px (pp 11) c, .rcv 11) :: (px (pp 0) c, .rcv 0)
    :: oAm c

end Cert.KernelIdeal.Pf

end
-- ==== Proof.KernelIdeal.Steps.lean ====
/-
One rule per operation of the kernel, stated over the regions and cells of the exchange.
-/
module

public import proofs.«01_k».proof.Proof.KernelIdeal.Sched
public import Idealize.ShloMosaic.Lib.Pipeline.Value

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-- The body's programs on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (m : (ℓ : Loc nD τ sig) → Buf (Elt F) ℓ) (lam : Dev nD → S128.Idx → Elt F .f32) (K : Dev nD × Kk → ℕ)

/-- What every device may rely on throughout: the cells' invariants, their round, the levels. -/
def ctx : sProp 𝕄 :=
  iprop(bigSep Finset.univ (fun ck => cellInv ER (Rd m lam) (K ck) (kcell ck)) ∗ bigSep Finset.univ (fun ck => reached ER (kcell ck) 0) ∗ levAts L lv)

instance ctx_persistent : BI.Persistent (ctx (F := F) m lam K) := by unfold ctx; infer_instance

theorem ctx_inv (ck : Dev nD × Kk) : ctx m lam K ⊢ cellInv ER (Rd m lam) (K ck) (kcell ck) := by
  unfold ctx; iintro ⟨H, -, -⟩
  iapply (show bigSep Finset.univ (fun ck => cellInv ER (Rd m lam) (K ck) (kcell ck)) ⊢ _ from bigSep_elim (Finset.mem_univ ck)) $$ H
theorem ctx_reached (ck : Dev nD × Kk) : ctx m lam K ⊢ reached ER (kcell ck) 0 := by
  unfold ctx; iintro ⟨-, H, -⟩
  iapply (show bigSep Finset.univ (fun ck => (reached ER (kcell ck) 0 : sProp 𝕄)) ⊢ _ from bigSep_elim (Finset.mem_univ ck)) $$ H
theorem ctx_lev : ctx m lam K ⊢ levAts L lv := by
  unfold ctx; iintro ⟨-, -, H⟩; iexact H

/-- Device `c` owes `O`. -/
def ow (c : Dev nD) (O : CellTallies nD τ sig Unit) : sProp 𝕄 := iprop(∃ W, owes (c : Thread nD τ) O W)
/-- A semaphore of device `c` at zero. -/
def dz (c : Dev nD) (s : DmaSem sig) : sProp 𝕄 := semVal ((c : Thread nD τ), .dma s) 0
/-- A copy within device `c`, on its way. -/
def fl (c : Dev nD) (s : DmaSem sig) (N : ℕ) (D : sProp 𝕄) : sProp 𝕄 :=
  Transfers.Flight (countersEmb (U := UU)) (c : Thread nD τ) (.dma s) () N D
def tok (ck : Dev nD × Kk) (d : Fin 3) : sProp 𝕄 := dutyTok ER (kcell ck) 0 d
def pos (ck : Dev nD × Kk) : sProp 𝕄 := atPos ER (kcell ck) 0 ∅ 0
def crd (ck : Dev nD × Kk) : sProp 𝕄 := cred (tallyAt (kcell ck) () (amt ck.2))

section Steps
variable (c : Dev nD) {α : Type} {Q : α → sProp (MT nD τ sig Unit (Elt F) ℕ UU ℕ)} {k : PUnit → Prog (TpuEff nD τ sig (Elt F) Λ₀ .tc) α}

/-! ## Copies within a device -/

theorem step_copy {sp sp' : Space} {s : Shape} {e : EltTy} {src src' : Memref sig .tc sp s e} {dst dst' : Memref sig .tc sp' s e} {sem sem' : DmaSem sig}
    {hsrc : src.view.WordExact} {hdst : dst.view.WordExact} {hsem : DmaTarget.Typed sp (.dma sem) (DmaTarget.here (nD := nD) (τ := τ) (sig := sig) (p := Proc.tc) dst)}
    (e1 : src = src') (e2 : dst = dst') (e3 : sem = sem') (N : ℕ) (hN : dst'.view.dmaCredit = N) (h0 : 0 < N) (q : PosShare TreeShare) (X : s.Idx → Elt F e) :
    owns (c : Thread nD τ) src' q X
      ⊢ iprop(anyo c dst' -∗ dz c sem' -∗ (fl c sem' N iprop(owns (c : Thread nD τ) dst' fullShare X ∗ owns (c : Thread nD τ) src' q X) -∗ WP c (k ⟨⟩) Q)
        -∗ WP c (.op (.enqueueDma src (.here dst) (.dma sem) hsrc hdst hsem) k) Q) := by
  subst e1 e2 e3
  unfold anyo dz fl owns
  iintro ⟨%fs, %hfs, Hs⟩ ⟨%X', %fd, %hfd, Hd⟩ Hz Hk
  iapply (Transfers.wp_dmaLocal (countersEmb (U := UU)) 𝒱₀ (c : Thread nD τ) none () N ((View.amount_dma _ _).trans hN) h0 (Sd := dst.view.set) (subset_refl _) (src := src) (via := .same) (q := q) (fs := fs) (fd := fd)) $$ [Hs Hd Hz]
  · iframe Hs Hd Hz
  iintro Hf
  iapply Hk
  iapply (Transfers.Flight_mono (countersEmb (U := UU)) (c : Thread nD τ) ?_) $$ Hf
  iintro ⟨Hd, Hs⟩
  isplitl [Hd]
  · iexists _
    isplitr; rotate_left
    · iexact Hd
    ipureintro
    exact (View.read_write_univ _ _).trans hfs
  · iexists fs
    isplitr; · (ipureintro; exact hfs)
    iexact Hs

theorem step_waitcopy {sp sp' : Space} {s : Shape} {e : EltTy} {src : Memref sig .tc sp s e} {dst dst' : Memref sig .tc sp' s e} {sem sem' : DmaSem sig}
    {hsrc : src.view.WordExact} {hdst : dst.view.WordExact}
    (e2 : dst = dst') (e3 : sem = sem') {N : ℕ} (hN : dst'.view.dmaCredit = N) (h0 : lv ((c : Thread nD τ), .dma sem') () = 0)
    {D : sProp 𝕄} (l : List (Dev nD × Kk)) (hl : l.all (fun p => decide (0 < levK p.2)) = true) :
    ctx m lam K
      ⊢ iprop(fl c sem' N D -∗ ow c (Owe l) -∗ (D -∗ dz c sem' -∗ ow c (Owe l) -∗ WP c (k ⟨⟩) Q)
        -∗ WP c (.op (.waitDma2 sem src dst hsrc hdst) k) Q) := by
  subst e2 e3
  unfold fl ow dz
  iintro #Hc Hf ⟨%W, Ho⟩ Hk
  iapply (Transfers.wp_waitLocalO (countersEmb (U := UU)) 𝒱₀ (c : Thread nD τ) none () hN) $$ [Hf Ho]
  · iframe Hf Ho
    iapply (mayWait_list c (.dma sem) 0 h0 l hl)
    iapply (ctx_lev m lam K); iexact Hc
  iintro ⟨HD, Hz, Ho⟩
  iapply Hk $$ HD Hz
  iexists _; iexact Ho

/-! ## The handshake -/

theorem sig_pay (j : Fin 3) :
    iprop(anyo c (dstM (sid j 0)) ∗ anyo c (dstM (sid j 1)) ∗ anyo c (dstM (sid j 2)) ∗ anyo c (dstM (sid j 3)))
      ⊢ (Rd (F := F) m lam).payload ((px (bp j) c : Thread nD τ), SemLoc.reg barS) 0 j := by
  rw [show ((px (bp j) c : Thread nD τ), SemLoc.reg barS) = kcell (px (bp j) c, .bar) from rfl, payload_k]
  show _ ⊢ barPay j (px (bp j) c)
  unfold barPay
  rw [show px (bp j) (px (bp j) c) = c from by fin_cases j <;> exact (px_px (by decide) (by decide) c).trans (px_zero c)]

theorem step_signal (j : Fin 3) {dv : Dev nD} (hdv : dv = px (bp j) c) (l : List (Dev nD × Kk)) :
    ctx m lam K
      ⊢ iprop(ow c (Owe ((px (bp j) c, .bar) :: l)) -∗ tok (px (bp j) c, .bar) j
        -∗ anyo c (dstM (sid j 0)) -∗ anyo c (dstM (sid j 1)) -∗ anyo c (dstM (sid j 2)) -∗ anyo c (dstM (sid j 3))
        -∗ (ow c (Owe l) -∗ WP c (k ⟨⟩) Q)
        -∗ WP c (.op (.semSignal (Dev.tc dv) barS 1) k) Q) := by
  subst hdv
  unfold ow tok
  iintro #Hc ⟨%W, Ho⟩ Ht H0 H1 H2 H3 Hk
  iapply (Rounds.wp_signal 𝒱₀ ER (Rd m lam) (c : Thread nD τ) none (dst := (px (bp j) c : Thread nD τ)) (κ := K (px (bp j) c, .bar)) (sem := barS) (r := 0)
      (d := j) (k' := 1) (by rw [show ((px (bp j) c : Thread nD τ), SemLoc.reg barS) = kcell (px (bp j) c, .bar) from rfl, duties_k]; exact Finset.mem_univ _)
      (amount_k m lam (px (bp j) c) .bar j) () (Owe l) rfl (W := W)) $$ [Ho Ht H0 H1 H2 H3]
  · isplitr; · iapply (ctx_inv m lam K (px (bp j) c, .bar)); iexact Hc
    isplitl [Ho]; · iexact Ho
    isplitl [Ht]; · iexact Ht
    isplitl [H0 H1 H2 H3]
    · iapply (sig_pay m lam c j)
      iframe H0 H1 H2 H3
    iapply (ctx_reached m lam K (px (bp j) c, .bar)); iexact Hc
  iintro Ho
  iapply Hk
  iexists _; iexact Ho

theorem step_barwait (l : List (Dev nD × Kk)) (hl : l.all (fun p => decide (1 < levK p.2)) = true) :
    ctx m lam K
      ⊢ iprop(cred (tallyAt (kcell (c, .bar)) () 3) -∗ ow c (Owe l) -∗ pos (c, .bar)
        -∗ (ow c (Owe l) -∗ semVal (kcell (c, .bar)) 0 -∗ barPay 0 c -∗ barPay 1 c -∗ barPay 2 c -∗ WP c (k ⟨⟩) Q)
        -∗ WP c (.op (.semWait barS 3) k) Q) := by
  unfold ow pos
  iintro #Hc Hcr ⟨%W, Ho⟩ Hat Hk
  iapply (Rounds.wp_wait_rest_token 𝒱₀ ER (Rd m lam) (c : Thread nD τ) none (κ := K (c, .bar))
      (wpE_semWait_eq 𝒱₀ (c : Thread nD τ) none Set.univ) (Set.mem_univ _) () (O := Owe l) (W := W) (R := 0) (m := 0) (T := ∅) (k' := 3) (sm := .reg barS)
      (expect_bar m lam c).symm) $$ [Hcr Ho Hat]
  · isplitr; · iapply (ctx_inv m lam K (c, .bar)); iexact Hc
    isplitl [Hcr]; · iexact Hcr
    isplitl [Ho]; · iexact Ho
    isplitr
    · iapply (mayWait_list c (.reg barS) 1 (lv_k (c, .bar)) l hl)
      iapply (ctx_lev m lam K); iexact Hc
    iexact Hat
  iintro ⟨Ho, Hat, -, Hpay⟩
  imod (Rounds.cell_close ER (Rd m lam) (Set.mem_univ (K (c, .bar))) (fun h => h) (R := 0 + 1) (duties_later m lam (kcell (c, .bar)))) $$ [Hat] with Hz
  · isplitr; · iapply (ctx_inv m lam K (c, .bar)); iexact Hc
    iexact Hat
  ihave Hp := (Entails.of_eq (show bigSep ((Rd (F := F) m lam).duties ((c : Thread nD τ), SemLoc.reg barS) 0 \ ∅) (fun d => (Rd (F := F) m lam).payload ((c : Thread nD τ), SemLoc.reg barS) 0 d) = _ from rest_bar m lam c)) $$ Hpay
  icases Hp with ⟨H0, H1, H2⟩
  iapply Hk $$ [Ho] Hz H0 H1 H2
  iexists _; iexact Ho

/-! ## Waits on the cells that a transfer credits -/

theorem step_wait (kk : Kk) {sp sp' : Space} {s s' : Shape} {e e' : EltTy} {src : Memref sig .tc sp s e} {dst : Memref sig .tc sp' s' e'} {sem : DmaSem sig}
    {hsrc : src.view.WordExact} {hdst : dst.view.WordExact} (e3 : SemLoc.dma sem = csem kk) (hd : dutK c kk = {0}) (hN : dst.view.dmaCredit = amt kk)
    (n : ℕ) (hn : levK kk = n) (l : List (Dev nD × Kk)) (hl : l.all (fun p => decide (n < levK p.2)) = true) :
    ctx m lam K
      ⊢ iprop(crd (c, kk) -∗ ow c (Owe l) -∗ pos (c, kk)
        -∗ (ow c (Owe l) -∗ semVal (kcell (c, kk)) 0 -∗ payK m lam c kk 0 -∗ WP c (k ⟨⟩) Q)
        -∗ WP c (.op (.waitDma2 sem src dst hsrc hdst) k) Q) := by
  have hkc : kcell (c, kk) = ((c : Thread nD τ), SemLoc.dma sem) := by rw [e3]
  have hL : lv ((c : Thread nD τ), SemLoc.dma sem) () = n := by rw [← hkc, lv_k]; exact hn
  have hE : 0 + dst.view.dmaCredit = (Rd m lam).expect ((c : Thread nD τ), SemLoc.dma sem) 0 := by
    rw [← hkc, expect_one m lam c kk hd, Nat.zero_add, hN]
  have hR := rest_one m lam c kk hd
  unfold ow pos crd
  rw [show amt (c, kk).2 = dst.view.dmaCredit from hN.symm]
  iintro #Hc Hcr ⟨%W, Ho⟩ Hat Hk
  ihave #Hi := (ctx_inv m lam K (c, kk)) $$ Hc
  rw [hkc] at *
  iapply (Rounds.wp_wait_rest_token 𝒱₀ ER (Rd m lam) (c : Thread nD τ) none (κ := K (c, kk))
      (wpE_waitDma2_eq 𝒱₀ (c : Thread nD τ) none Set.univ) (Set.mem_univ _) () (O := Owe l) (W := W) (R := 0) (m := 0) (T := ∅) hE) $$ [Hcr Ho Hat]
  · isplitr; · iexact Hi
    isplitl [Hcr]; · iexact Hcr
    isplitl [Ho]; · iexact Ho
    isplitr
    · iapply (mayWait_list c (.dma sem) n hL l hl)
      iapply (ctx_lev m lam K); iexact Hc
    iexact Hat
  iintro ⟨Ho, Hat, -, Hpay⟩
  imod (Rounds.cell_close ER (Rd m lam) (Set.mem_univ (K (c, kk))) (fun h => h) (R := 0 + 1) (duties_later m lam _)) $$ [Hat] with Hz
  · isplitr; · iexact Hi
    iexact Hat
  ihave Hp := (Entails.of_eq hR) $$ Hpay
  iapply Hk $$ [Ho] Hz Hp
  iexists _; iexact Ho

/-! ## Transfers between devices -/

theorem px_pp_pp (i : Fin 12) : px (pp i) (px (pp i) c) = c := by
  fin_cases i <;> exact (px_px (by decide) (by decide) c).trans (px_zero c)

/-- Send `i`. -/
theorem step_send (i : Fin 12) {src dst : Memref sig .tc .vmem S512x512 .bf16} {dv : Dev nD} {sS sR : DmaSem sig} {hsc : dst.view.ref.isScScratch = false}
    {hsrc : src.view.WordExact} {hdst : dst.view.WordExact}
    {hsem : DmaTarget.Typed .vmem (.dma sR) (.remote (Dev.tc dv : Thread nD τ) dst (.dma sS) hsc)}
    (e1 : src = srcM i) (e2 : dst = dstM i) (e3 : dv = px (pp i) c) (e4 : sS = sndS i) (e5 : sR = rcvS i) (l : List (Dev nD × Kk)) :
    ctx m lam K
      ⊢ iprop(owns (c : Thread nD τ) (srcM i) fullShare (sx m i c) -∗ anyo (px (pp i) c) (dstM i) -∗ sperm i c
        -∗ ow c (Owe ((px (pp i) c, .rcv i) :: l)) -∗ tok (c, .snd i) 0 -∗ tok (px (pp i) c, .rcv i) 0
        -∗ (crd (c, .snd i) -∗ ow c (Owe l) -∗ WP c (k ⟨⟩) Q)
        -∗ WP c (.op (.enqueueDma src (.remote (Dev.tc dv : Thread nD τ) dst (.dma sS) hsc) (.dma sR) hsrc hdst hsem) k) Q) := by
  subst e1 e2 e3 e4 e5
  unfold ow tok crd anyo
  iintro #Hc Hs ⟨%X', Hd⟩ Hp ⟨%W, Ho⟩ Ht1 Ht2 Hk
  unfold owns
  icases Hs with ⟨%fs, %hfs, Hs⟩
  icases Hd with ⟨%fd, %hfd, Hd⟩
  iapply (Rounds.wp_send_pointsTo_with 𝒱₀ ER (Rd m lam) (c : Thread nD τ) none (κ₁ := K (c, .snd i)) (κ₂ := K (px (pp i) c, .rcv i))
    (sS := .dma (sndS i)) (sem := .dma (rcvS i)) (c' := (px (pp i) c : Thread nD τ)) (src := srcM i) (dst := dstM i) (q := fullShare) (fs := fs)
    (r₁ := 0) (r₂ := 0) (d₁ := 0) (d₂ := 0) (fd := fd) (F := sperm i c)
    (by rw [show ((c : Thread nD τ), SemLoc.dma (sndS i)) = kcell (c, .snd i) from rfl, duties_k]; exact Finset.mem_singleton_self _)
    (by rw [show ((px (pp i) c : Thread nD τ), SemLoc.dma (rcvS i)) = kcell (px (pp i) c, .rcv i) from rfl, duties_k]; exact Finset.mem_singleton_self _)
    () () Nslot ((View.amount_dma _ _).trans (dst_credit i)) (amount_k m lam c (.snd i) 0) (amount_k m lam (px (pp i) c) (.rcv i) 0) (Owe l) rfl (W := W)
    (by rw [show ((c : Thread nD τ), SemLoc.dma (sndS i)) = kcell (c, .snd i) from rfl, payload_k]
        show _ ⊢ anyo c (srcM i)
        unfold anyo owns
        iintro H; iexists _; iexists fs
        isplitr; · (ipureintro; rfl)
        iexact H)
    (by rw [show ((px (pp i) c : Thread nD τ), SemLoc.dma (rcvS i)) = kcell (px (pp i) c, .rcv i) from rfl, payload_k]
        show _ ⊢ rcvPay m i (px (pp i) c)
        unfold rcvPay owns
        rw [px_pp_pp]
        iintro ⟨H, Hp⟩
        isplitl [H]
        · iexists _
          isplitr; rotate_left
          · iexact H
          ipureintro
          exact (View.read_write_univ _ _).trans hfs
        · iexact Hp)) $$ [Hs Hd Hp Ho Ht1 Ht2]
  · isplitr; · iapply (ctx_inv m lam K (c, .snd i)); iexact Hc
    isplitr; · iapply (ctx_inv m lam K (px (pp i) c, .rcv i)); iexact Hc
    isplitl [Hs]; · iexact Hs
    isplitl [Hd Hp]; · iframe Hd Hp
    isplitl [Ho]; · iexact Ho
    isplitl [Ht1]; · iexact Ht1
    isplitr; · iapply (ctx_reached m lam K (c, .snd i)); iexact Hc
    isplitl [Ht2]; · iexact Ht2
    iapply (ctx_reached m lam K (px (pp i) c, .rcv i)); iexact Hc
  iintro ⟨Hcr, Ho⟩
  iapply Hk $$ [Hcr] [Ho]
  · iexact Hcr
  iexists _; iexact Ho

theorem ne_rot : ∀ (c : Dev nD) (d : Fin 7), ¬ c = rot (d.val + 1) c := by decide +kernel

/-- The maximum of `c`, sent to the device `d + 1` places on. -/
theorem step_amsend (d : Fin 7) {src dst : Memref sig .tc .vmem S128 .f32} {dv : Dev nD} {sS sR : DmaSem sig} {hsc : dst.view.ref.isScScratch = false}
    {hsrc : src.view.WordExact} {hdst : dst.view.WordExact}
    {hsem : DmaTarget.Typed .vmem (.dma sR) (.remote (Dev.tc dv : Thread nD τ) dst (.dma sS) hsc)}
    (e1 : src = rowM c) (e2 : dst = rowM c) (e3 : dv = rot (d.val + 1) c) (e4 : sS = asS d.succ) (e5 : sR = arS c) (l : List (Dev nD × Kk)) :
    ctx m lam K
      ⊢ iprop(owns (c : Thread nD τ) (rowM c) (qs d.val) (lam c) -∗ anyo (rot (d.val + 1) c) (rowM c)
        -∗ ow c (Owe ((rot (d.val + 1) c, .arv c) :: l)) -∗ tok (c, .asd d) 0 -∗ tok (rot (d.val + 1) c, .arv c) 0
        -∗ (crd (c, .asd d) -∗ ow c (Owe l) -∗ WP c (k ⟨⟩) Q)
        -∗ WP c (.op (.enqueueDma src (.remote (Dev.tc dv : Thread nD τ) dst (.dma sS) hsc) (.dma sR) hsrc hdst hsem) k) Q) := by
  subst e1 e2 e3 e4 e5
  have hne : dutK (rot (d.val + 1) c) (.arv c) = {0} := if_neg (ne_rot c d)
  unfold ow tok crd anyo
  iintro #Hc Hs ⟨%X', Hd⟩ ⟨%W, Ho⟩ Ht1 Ht2 Hk
  unfold owns
  icases Hs with ⟨%fs, %hfs, Hs⟩
  icases Hd with ⟨%fd, %hfd, Hd⟩
  iapply (Rounds.wp_send_pointsTo 𝒱₀ ER (Rd m lam) (c : Thread nD τ) none (κ₁ := K (c, .asd d)) (κ₂ := K (rot (d.val + 1) c, .arv c))
    (sS := .dma (asS d.succ)) (sem := .dma (arS c)) (c' := (rot (d.val + 1) c : Thread nD τ)) (src := rowM c) (dst := rowM c) (q := qs d.val) (fs := fs)
    (r₁ := 0) (r₂ := 0) (d₁ := 0) (d₂ := 0) (fd := fd)
    (by rw [show ((c : Thread nD τ), SemLoc.dma (asS d.succ)) = kcell (c, .asd d) from rfl, duties_k]; exact Finset.mem_singleton_self _)
    (by rw [show ((rot (d.val + 1) c : Thread nD τ), SemLoc.dma (arS c)) = kcell (rot (d.val + 1) c, .arv c) from rfl, duties_k, hne]; exact Finset.mem_singleton_self _)
    () () Nrow ((View.amount_dma _ _).trans (credit_row c)) (amount_k m lam c (.asd d) 0) (amount_k m lam (rot (d.val + 1) c) (.arv c) 0) (Owe l) rfl (W := W)
    (by rw [show ((c : Thread nD τ), SemLoc.dma (asS d.succ)) = kcell (c, .asd d) from rfl, payload_k]
        show _ ⊢ owns (c : Thread nD τ) (rowM c) (qs d.val) (lam c)
        unfold owns
        iintro H; iexists fs
        isplitr; · (ipureintro; exact hfs)
        iexact H)
    (by rw [show ((rot (d.val + 1) c : Thread nD τ), SemLoc.dma (arS c)) = kcell (rot (d.val + 1) c, .arv c) from rfl, payload_k]
        show _ ⊢ owns (rot (d.val + 1) c : Thread nD τ) (rowM c) fullShare (lam c)
        unfold owns
        iintro H
        iexists _
        isplitr; rotate_left
        · iexact H
        ipureintro
        exact (View.read_write_univ _ _).trans hfs)) $$ [Hs Hd Ho Ht1 Ht2]
  · isplitr; · iapply (ctx_inv m lam K (c, .asd d)); iexact Hc
    isplitr; · iapply (ctx_inv m lam K (rot (d.val + 1) c, .arv c)); iexact Hc
    isplitl [Hs]; · iexact Hs
    isplitl [Hd]; · iexact Hd
    isplitl [Ho]; · iexact Ho
    isplitl [Ht1]; · iexact Ht1
    isplitr; · iapply (ctx_reached m lam K (c, .asd d)); iexact Hc
    isplitl [Ht2]; · iexact Ht2
    iapply (ctx_reached m lam K (rot (d.val + 1) c, .arv c)); iexact Hc
  iintro ⟨Hcr, Ho⟩
  iapply Hk $$ [Hcr] [Ho]
  · iexact Hcr
  iexists _; iexact Ho

end Steps

/-! ## Loads and stores -/

section Mem
variable (c : Dev nD) {α : Type} {Q : α → sProp (MT nD τ sig Unit (Elt F) ℕ UU ℕ)}

/-- A block of 512 by 512 with a leading axis of one. -/
abbrev unsq {e : EltTy} (X : S512x512.Idx → Elt F e) : S1x512x512.Idx → Elt F e := shapeCast S1x512x512 X
abbrev sq {e : EltTy} (X : S1x512x512.Idx → Elt F e) : S512x512.Idx → Elt F e := shapeCast S512x512 X
theorem sq_unsq {e : EltTy} (X : S512x512.Idx → Elt F e) : sq (unsq X) = X := shapeCast_shapeCast _ _ _

theorem slot_read {n : ℕ} {e : EltTy} (M : Memref sig .tc .vmem (Sn n) e) (j : Fin n) (f : M.view.ty.Contents (Elt F)) :
    (M.access (slotR n j)).read (Elt F) f = unsq ((slotM M j).view.read (Elt F) f) :=
  (shapeCast_shapeCast (s := S1x512x512) (t := S512x512) ((M.access (slotR n j)).read (Elt F) f) (by decide) (by decide)).symm

/-- A load of a block of 512 by 512. -/
theorem step_load {n : ℕ} {e : EltTy} {M : Memref sig .tc .vmem (Sn n) e} (j : Fin n) {hl : M.view.LoadsAt (slotR n j).toLoadRect}
    {k : (S1x512x512.Idx → Elt F e) → Prog (TpuEff nD τ sig (Elt F) Λ₀ .tc) α} (q : PosShare TreeShare) (X : S512x512.Idx → Elt F e) :
    owns (c : Thread nD τ) (slotM M j) q X
      ⊢ iprop((owns (c : Thread nD τ) (slotM M j) q X -∗ WP c (k (unsq X)) Q)
        -∗ WP c (.op (.load M (slotR n j).toLoadRect hl) k) Q) := by
  unfold owns
  iintro ⟨%f, %hf, H⟩ Hk
  iapply (wp_load_rect 𝒱₀ (c : Thread nD τ) none Set.univ (m := M) (r := slotR n j) (S := (slotM M j).view.set) (f := f) (q := q)
    (by rw [View.set_reshape])) $$ H
  iintro H
  rw [slot_read, hf]
  iapply Hk
  iexists f
  isplitr; · (ipureintro; exact hf)
  iexact H

/-- A store of a block of 512 by 512. -/
theorem step_store {n : ℕ} {e : EltTy} {M : Memref sig .tc .vmem (Sn n) e} (j : Fin n) {w : S1x512x512.Idx → Elt F e} {hx} {hm}
    {k : PUnit → Prog (TpuEff nD τ sig (Elt F) Λ₀ .tc) α} (X Y : S512x512.Idx → Elt F e) (hw : w = unsq X) :
    owns (c : Thread nD τ) (slotM M j) fullShare Y
      ⊢ iprop((owns (c : Thread nD τ) (slotM M j) fullShare X -∗ WP c (k ⟨⟩) Q)
        -∗ WP c (.op (.store M (slotR n j) w Finset.univ hx hm) k) Q) := by
  subst hw
  unfold owns
  iintro ⟨%f, %hf, H⟩ Hk
  iapply (wp_store 𝒱₀ (c : Thread nD τ) none Set.univ (m := M) (r := slotR n j) (S := (slotM M j).view.set) (f := f) (Mk := Finset.univ)
    (by rw [View.set_reshape]; exact subset_refl _)) $$ H
  iintro H
  iapply Hk
  iexists _
  isplitr; rotate_left
  · iexact H
  ipureintro
  rw [Memref.read_squeeze_slice M (slotR n j) (fun _ => rfl) squeezes_S1x512x512_S512x512 (show S1x512x512.ShapeCasts S512x512 by decide)]
  show sq ((M.access (slotR n j)).read (Elt F) ((M.access (slotR n j)).write (Elt F) f (unsq X) Finset.univ)) = X
  rw [View.read_write_univ]
  exact sq_unsq X

/-- A load of a device's rows of the right matrix. -/
theorem step_loadw (d : Dev nD) {off : Fin 2 → ℕ} {h} (ho : off = ![512 * d.val, 0]) {hl : wvM.view.LoadsAt (Rect.unit (s := S4096x2048) off S512x2048.size h).toLoadRect}
    {k : (S512x2048.Idx → Elt F .f32) → Prog (TpuEff nD τ sig (Elt F) Λ₀ .tc) α} (q : PosShare TreeShare) (X : S512x2048.Idx → Elt F .f32) :
    owns (c : Thread nD τ) (wvblk d) q X
      ⊢ iprop((owns (c : Thread nD τ) (wvblk d) q X -∗ WP c (k X) Q)
        -∗ WP c (.op (.load wvM (Rect.unit (s := S4096x2048) off S512x2048.size h).toLoadRect hl) k) Q) := by
  subst ho
  unfold owns
  iintro ⟨%f, %hf, H⟩ Hk
  iapply (wp_load_rect 𝒱₀ (c : Thread nD τ) none Set.univ (m := wvM) (r := wR d) (S := (wvblk d).view.set) (f := f) (q := q) (subset_refl _)) $$ H
  iintro H
  rw [show (wvM.access (wR d)).read (Elt F) f = X from hf]
  iapply Hk
  iexists f
  isplitr; · (ipureintro; exact hf)
  iexact H

theorem hz2 : (![0, 0] : Fin 2 → Nat) = fun _ => 0 := funext fun a => by fin_cases a <;> rfl

abbrev oR : Rect S512x2048 := Rect.unit (s := S512x2048) ![0, 0] S512x2048.size inb_S512x2048_S512x2048_0_0
abbrev aR : Rect S8x128 := Rect.unit (s := S8x128) ![0, 0] S8x128.size inb_S8x128_S8x128_0_0

/-- A load of the whole result block. -/
theorem step_loado {hl : oM.view.LoadsAt oR.toLoadRect}
    {k : (S512x2048.Idx → Elt F .f32) → Prog (TpuEff nD τ sig (Elt F) Λ₀ .tc) α} (X : S512x2048.Idx → Elt F .f32) :
    owns (c : Thread nD τ) oM fullShare X
      ⊢ iprop((owns (c : Thread nD τ) oM fullShare X -∗ WP c (k X) Q) -∗ WP c (.op (.load oM oR.toLoadRect hl) k) Q) := by
  unfold owns
  iintro ⟨%f, %hf, H⟩ Hk
  iapply (wp_load 𝒱₀ (c : Thread nD τ) none Set.univ (m := oM) (f := f) (q := fullShare) (S := oM.view.set) (by rw [View.set_whole]; exact Finset.subset_univ _)) $$ H
  iintro H
  rw [show oM.view.readAt (Elt F) oR.toLoadRect f = X from (Memref.readAt_unit_zero (Elt F) cc0_stg0_0 hz2 _ f).trans ((View.read_whole cc0_stg0_0 f).symm.trans hf)]
  iapply Hk
  iexists f
  isplitr; · (ipureintro; exact hf)
  iexact H

/-- A store of the whole result block. -/
theorem step_storeo {w : S512x2048.Idx → Elt F .f32} {hx} {hm}
    {k : PUnit → Prog (TpuEff nD τ sig (Elt F) Λ₀ .tc) α} (Y : S512x2048.Idx → Elt F .f32) :
    owns (c : Thread nD τ) oM fullShare Y
      ⊢ iprop((owns (c : Thread nD τ) oM fullShare w -∗ WP c (k ⟨⟩) Q) -∗ WP c (.op (.store oM oR w Finset.univ hx hm) k) Q) := by
  unfold owns
  iintro ⟨%f, %hf, H⟩ Hk
  iapply (wp_store 𝒱₀ (c : Thread nD τ) none Set.univ (m := oM) (r := oR) (f := f) (Mk := Finset.univ) (S := oM.view.set) (by rw [View.set_whole]; exact Finset.subset_univ _)) $$ H
  iintro H
  iapply Hk
  iexists _
  isplitr; rotate_left
  · iexact H
  ipureintro
  rw [show (oM.access oR : View sig .tc _ _ _).write (Elt F) f w Finset.univ = w from Memref.write_access_unit_zero_univ (Elt F) cc0_stg0_0 hz2 _ f w]
  exact View.read_whole _ _

/-- A load of all the maxima. -/
theorem step_loada {hl : amM.view.LoadsAt aR.toLoadRect}
    {k : (S8x128.Idx → Elt F .f32) → Prog (TpuEff nD τ sig (Elt F) Λ₀ .tc) α} (q : PosShare TreeShare) (X : S8x128.Idx → Elt F .f32) :
    owns (c : Thread nD τ) amM q X
      ⊢ iprop((owns (c : Thread nD τ) amM q X -∗ WP c (k X) Q) -∗ WP c (.op (.load amM aR.toLoadRect hl) k) Q) := by
  unfold owns
  iintro ⟨%f, %hf, H⟩ Hk
  iapply (wp_load 𝒱₀ (c : Thread nD τ) none Set.univ (m := amM) (f := f) (q := q) (S := amM.view.set) (by rw [View.set_whole]; exact Finset.subset_univ _)) $$ H
  iintro H
  rw [show amM.view.readAt (Elt F) aR.toLoadRect f = X from (Memref.readAt_unit_zero (Elt F) cc0_scratch5 hz2 _ f).trans ((View.read_whole cc0_scratch5 f).symm.trans hf)]
  iapply Hk
  iexists f
  isplitr; · (ipureintro; exact hf)
  iexact H

/-- A load of a device's row of the maxima. -/
theorem step_loadrow (d : Dev nD) {off : Fin 2 → ℕ} {h} (ho : off = ![d.val, 0]) {hl : amM.view.LoadsAt (Rect.unit (s := S8x128) off S1x128.size h).toLoadRect}
    {k : (S1x128.Idx → Elt F .f32) → Prog (TpuEff nD τ sig (Elt F) Λ₀ .tc) α} (Y : S128.Idx → Elt F .f32) :
    owns (c : Thread nD τ) (rowM d) fullShare Y
      ⊢ iprop((∀ v, owns (c : Thread nD τ) (rowM d) fullShare Y -∗ WP c (k v) Q)
        -∗ WP c (.op (.load amM (Rect.unit (s := S8x128) off S1x128.size h).toLoadRect hl) k) Q) := by
  subst ho
  unfold owns
  iintro ⟨%f, %hf, H⟩ Hk
  iapply (wp_load_rect 𝒱₀ (c : Thread nD τ) none Set.univ (m := amM) (r := amR d) (S := (rowM d).view.set) (f := f) (q := fullShare)
    (by rw [View.set_reshape])) $$ H
  iintro H
  iapply Hk
  iexists f
  isplitr; · (ipureintro; exact hf)
  iexact H

/-- A store of a device's row of the maxima. -/
theorem step_storerow (d : Dev nD) {off : Fin 2 → ℕ} {h} (ho : off = ![d.val, 0]) {w : S1x128.Idx → Elt F .f32} {hx} {hm}
    {k : PUnit → Prog (TpuEff nD τ sig (Elt F) Λ₀ .tc) α} (Y : S128.Idx → Elt F .f32) :
    owns (c : Thread nD τ) (rowM d) fullShare Y
      ⊢ iprop((owns (c : Thread nD τ) (rowM d) fullShare (shapeCast S128 w) -∗ WP c (k ⟨⟩) Q)
        -∗ WP c (.op (.store amM (Rect.unit (s := S8x128) off S1x128.size h) w Finset.univ hx hm) k) Q) := by
  subst ho
  unfold owns
  iintro ⟨%f, %hf, H⟩ Hk
  iapply (wp_store 𝒱₀ (c : Thread nD τ) none Set.univ (m := amM) (r := amR d) (S := (rowM d).view.set) (f := f) (Mk := Finset.univ)
    (by rw [View.set_reshape]; exact subset_refl _)) $$ H
  iintro H
  iapply Hk
  iexists _
  isplitr; rotate_left
  · iexact H
  ipureintro
  rw [Memref.read_squeeze_slice amM (amR d) (fun _ => rfl) squeezes_S1x128_S128 (show S1x128.ShapeCasts S128 by decide)]
  show shapeCast S128 ((amM.access (amR d)).read (Elt F) ((amM.access (amR d)).write (Elt F) f w Finset.univ)) _ = _
  rw [View.read_write_univ]

end Mem

end Cert.KernelIdeal.Pf

end
-- ==== Proof.KernelIdeal.Ops.lean ====
/-
The rules of the operations, over the bundles in which the proof of the body carries its resources.
-/
module

public import proofs.«01_k».proof.Proof.KernelIdeal.Steps
public import Idealize.ShloMosaic.Lib.MemrefSat

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (lam : Dev nD → S128.Idx → Elt F .f32) (K : Dev nD × Kk → ℕ)

/-! ## Contents and bundles -/

/-- The block of the left matrix that `c` multiplies and that the device at `v` held. -/
def gb (v : ℕ) (c : Dev nD) : S512x512.Idx → Elt F .bf16 := xb m (px v c) c
/-- Device `e`'s rows of the right matrix, as `c` holds them. -/
def wraw (c e : Dev nD) : S512x2048.Idx → Elt F .f32 := fun j => (m ((c : Thread nD τ).loc main_arg1)) ((wR e).emb j)

/-- What is still to pay after `n` payments. -/
def ob (n : ℕ) (c : Dev nD) : List (Dev nD × Kk) := (oblig c).drop n
def Ob (n : ℕ) (c : Dev nD) : sProp 𝕄 := ow c (Owe (ob n c))

def xh (v : ℕ) (c : Dev nD) : sProp 𝕄 := owns (c : Thread nD τ) (xblk (px v c)) fullShare (xraw m c (px v c))
def wh (v : ℕ) (c : Dev nD) : sProp 𝕄 := owns (c : Thread nD τ) (wblk (px v c)) fullShare (wraw m c (px v c))
def xl (s : Fin 4) (c : Dev nD) : sProp 𝕄 := anyo c (slotM xlM s)
def sg (s : Fin 8) (c : Dev nD) : sProp 𝕄 := anyo c (slotM sgM s)
def wv (v : ℕ) (c : Dev nD) : sProp 𝕄 := owns (c : Thread nD τ) (wvblk (px v c)) fullShare (wraw m c (px v c))
def rc (s : Fin 8) (v : ℕ) (c : Dev nD) : sProp 𝕄 := owns (c : Thread nD τ) (slotM rcM s) fullShare (gb m v c)
def out (c : Dev nD) (X : S512x2048.Idx → Elt F .f32) : sProp 𝕄 := owns (c : Thread nD τ) oM fullShare X
/-- The source of send `i`, filled. -/
def full (i : Fin 12) (c : Dev nD) : sProp 𝕄 := owns (c : Thread nD τ) (srcM i) fullShare (sx m i c)
/-- The landing place of send `i` of `c`. -/
def room (i : Fin 12) (c : Dev nD) : sProp 𝕄 := anyo (px (pp i) c) (dstM i)

abbrev Nx : ℕ := (slotM xlM 0).view.dmaCredit
abbrev Nw : ℕ := (wvblk 0).view.dmaCredit

/-- A copy of the block for the device at `v` into landing slot `s`, on its way. -/
def xf (s : Fin 4) (v : ℕ) (c : Dev nD) : sProp 𝕄 :=
  fl c (xdS s) Nx iprop(owns (c : Thread nD τ) (slotM xlM s) fullShare (xraw m c (px v c)) ∗ xh m v c)
/-- A copy of the right matrix's rows of the device at `v`, before it starts and on its way. -/
def wq (v : ℕ) (c : Dev nD) : sProp 𝕄 := iprop(wh m v c ∗ anyo c (wvblk (px v c)) ∗ dz c (wdS (px v c)))
def wf (v : ℕ) (c : Dev nD) : sProp 𝕄 := fl c (wdS (px v c)) Nw iprop(wv m v c ∗ wh m v c)
/-- What remains of it afterwards, besides the rows. -/
def wd (v : ℕ) (c : Dev nD) : sProp 𝕄 := iprop(wh m v c ∗ dz c (wdS (px v c)))

/-- The rights to wait for cell `kk`, and the cell afterwards. -/
def wt (kk : Kk) (c : Dev nD) : sProp 𝕄 := iprop(crd (c, kk) ∗ pos (c, kk))
def dn (kk : Kk) (c : Dev nD) : sProp 𝕄 := semVal (kcell (c, kk)) 0
/-- The rights to make send `i`, and to report the maximum to the device `d + 1` places on. -/
def sendT (i : Fin 12) (c : Dev nD) : sProp 𝕄 := iprop(tok (c, .snd i) 0 ∗ tok (px (pp i) c, .rcv i) 0 ∗ pos (c, .snd i))
def amT (d : Fin 7) (c : Dev nD) : sProp 𝕄 := iprop(tok (c, .asd d) 0 ∗ tok (rot (d.val + 1) c, .arv c) 0 ∗ pos (c, .asd d))
/-- The regions offered to partner `j`. -/
def offer (j : Fin 3) (c : Dev nD) : sProp 𝕄 :=
  iprop(anyo c (dstM (sid j 0)) ∗ anyo c (dstM (sid j 1)) ∗ anyo c (dstM (sid j 2)) ∗ anyo c (dstM (sid j 3)))
/-- The device `d + 1` places on, ready for the maximum. -/
def amRoom (d : Fin 7) (c : Dev nD) : sProp 𝕄 := anyo (rot (d.val + 1) c) (rowM c)
/-- A share of the own row of maxima. -/
def amSh (d : ℕ) (c : Dev nD) : sProp 𝕄 := owns (c : Thread nD τ) (rowM c) (qs d) (lam c)
def amRest (d : ℕ) (c : Dev nD) : sProp 𝕄 := owns (c : Thread nD τ) (rowM c) (rr d) (lam c)
/-- The row of maxima received from the device `d` places on. -/
def amGot (d : ℕ) (c : Dev nD) : sProp 𝕄 := owns (c : Thread nD τ) (rowM (rot d c)) fullShare (lam (rot d c))

/-! ## The printed slices -/

theorem xsl (c : Dev nD) (v : Fin 8) {i} : xA.slice (Rect.unit (s := S4096x512) (k0_off1 c (BitVec.ofNat 32 v.val)) S512x512.size i) (fun _ => rfl) = xblk (px v.val c) :=
  slice_congr _ (off1_eq c v) _ _
theorem xsl0 (c : Dev nD) {i} : xA.slice (Rect.unit (s := S4096x512) (k0_off4 c) S512x512.size i) (fun _ => rfl) = xblk (px 0 c) :=
  slice_congr _ ((off4_eq c).trans (by rw [px_zero])) _ _
theorem wsl (c : Dev nD) (v : Fin 8) {i} : wA.slice (Rect.unit (s := S4096x2048) (k0_off3 c (BitVec.ofNat 32 v.val)) S512x2048.size i) (fun _ => rfl) = wblk (px v.val c) :=
  slice_congr _ (off3_eq c v) _ _
theorem wvsl (c : Dev nD) (v : Fin 8) {i} : wvM.slice (Rect.unit (s := S4096x2048) (k0_off3 c (BitVec.ofNat 32 v.val)) S512x2048.size i) (fun _ => rfl) = wvblk (px v.val c) :=
  slice_congr _ (off3_eq c v) _ _
theorem wvsl0 (c : Dev nD) {i} : wvM.slice (Rect.unit (s := S4096x2048) (k0_off6 c) S512x2048.size i) (fun _ => rfl) = wvblk (px 0 c) :=
  slice_congr _ ((off6_eq c).trans (by rw [px_zero])) _ _
theorem wdsl (c : Dev nD) (v : Fin 8) {i} : semAt cc0_scratch7 (k0_off2 c (BitVec.ofNat 32 v.val)) i = wdS (px v.val c) :=
  (semAt_congr _ (off2_eq c v) _ (one_inb (px v.val c))).trans (wd_eq _)
theorem wdsl0 (c : Dev nD) {i} : semAt cc0_scratch7 (k0_off5 c) i = wdS (px 0 c) :=
  (semAt_congr _ ((off5_eq c).trans (by rw [px_zero])) _ (one_inb (px 0 c))).trans (wd_eq _)
theorem rowsl (c : Dev nD) {i} : (amM.slice (Rect.unit (s := S8x128) (k0_off10 c) S1x128.size i) (fun _ => rfl)).squeeze S128 squeezes_S1x128_S128 = rowM c :=
  congrArg (fun M : Memref sig .tc .vmem S1x128 .f32 => M.squeeze S128 squeezes_S1x128_S128) (slice_congr amM (off10_eq c) _ _)
theorem arsl (c : Dev nD) {i} : semAt cc0_scratch12 (k0_off5 c) i = arS c :=
  (semAt_congr _ (off5_eq c) _ (one_inb c)).trans (ar_eq _)
theorem arsld (c : Dev nD) (v : Fin 8) {i} : semAt cc0_scratch12 (k0_off11 c (BitVec.ofNat 32 v.val)) i = arS (rot v.val c) :=
  (semAt_congr _ (off11_eq c v) _ (one_inb (rot v.val c))).trans (ar_eq _)

/-! ## Levels of the semaphores of copies within a device -/

theorem csem_ne_xd : ∀ (s : Fin 4) (k : Kk), csem k ≠ .dma (xdS s) := by decide +kernel
theorem csem_ne_wd : ∀ (s : Fin 8) (k : Kk), csem k ≠ .dma (wdS s) := by decide +kernel
theorem lv_xd (c : Dev nD) (s : Fin 4) : lv ((c : Thread nD τ), .dma (xdS s)) () = 0 := by
  show levO (kOf _) = 0; rw [kOf_none (csem_ne_xd s)]; rfl
theorem lv_wd (c : Dev nD) (s : Fin 8) : lv ((c : Thread nD τ), .dma (wdS s)) () = 0 := by
  show levO (kOf _) = 0; rw [kOf_none (csem_ne_wd s)]; rfl

/-! ## The rules, over the bundles -/

section Ops
variable (c : Dev nD) {α : Type} {Q : α → sProp (MT nD τ sig Unit (Elt F) ℕ UU ℕ)} {k : PUnit → Prog (TpuEff nD τ sig (Elt F) Λ₀ .tc) α}

theorem op_xcopy (s : Fin 4) (v : ℕ) {src : Memref sig .tc .hbm S512x512 .f32} {dst : Memref sig .tc .vmem S512x512 .f32} {sem : DmaSem sig}
    {hsrc : src.view.WordExact} {hdst : dst.view.WordExact} {hsem : DmaTarget.Typed .hbm (.dma sem) (DmaTarget.here (nD := nD) (τ := τ) (sig := sig) (p := Proc.tc) dst)}
    (e1 : src = xblk (px v c)) (e2 : dst = slotM xlM s) (e3 : sem = xdS s) :
    xh m v c ⊢ iprop(xl s c -∗ dz c (xdS s) -∗ (xf m s v c -∗ WP c (k ⟨⟩) Q)
        -∗ WP c (.op (.enqueueDma src (.here dst) (.dma sem) hsrc hdst hsem) k) Q) := by
  unfold xh xl xf
  exact step_copy c e1 e2 e3 Nx rfl (View.dmaCredit_pos _ (by decide)) fullShare _

theorem op_xwait (s : Fin 4) (v n : ℕ) {sp : Space} {src : Memref sig .tc sp S512x512 .f32} {dst : Memref sig .tc .vmem S512x512 .f32} {sem : DmaSem sig}
    {hsrc : src.view.WordExact} {hdst : dst.view.WordExact} (e2 : dst = slotM xlM s) (e3 : sem = xdS s)
    (hl : (ob n c).all (fun p => decide (0 < levK p.2)) = true) :
    ctx m lam K ⊢ iprop(xf m s v c -∗ Ob n c
        -∗ (owns (c : Thread nD τ) (slotM xlM s) fullShare (xraw m c (px v c)) -∗ xh m v c -∗ dz c (xdS s) -∗ Ob n c -∗ WP c (k ⟨⟩) Q)
        -∗ WP c (.op (.waitDma2 sem src dst hsrc hdst) k) Q) := by
  unfold xf Ob
  iintro #Hc Hf Ho Hk
  iapply (step_waitcopy m lam K c e2 e3 (N := Nx) rfl (lv_xd c s) (ob n c) hl) $$ Hc Hf Ho
  iintro ⟨Hd, Hs⟩ Hz Ho
  iapply Hk $$ Hd Hs Hz Ho

theorem op_wcopy (v : ℕ) {src : Memref sig .tc .hbm S512x2048 .f32} {dst : Memref sig .tc .vmem S512x2048 .f32} {sem : DmaSem sig}
    {hsrc : src.view.WordExact} {hdst : dst.view.WordExact} {hsem : DmaTarget.Typed .hbm (.dma sem) (DmaTarget.here (nD := nD) (τ := τ) (sig := sig) (p := Proc.tc) dst)}
    (e1 : src = wblk (px v c)) (e2 : dst = wvblk (px v c)) (e3 : sem = wdS (px v c)) :
    wq m v c ⊢ iprop((wf m v c -∗ WP c (k ⟨⟩) Q)
        -∗ WP c (.op (.enqueueDma src (.here dst) (.dma sem) hsrc hdst hsem) k) Q) := by
  unfold wq wf wh wv
  iintro ⟨Hs, Hd, Hz⟩ Hk
  iapply (step_copy c e1 e2 e3 Nw rfl (View.dmaCredit_pos _ (by decide)) fullShare (wraw m c (px v c))) $$ Hs Hd Hz Hk

theorem op_wwait (v n : ℕ) {sp : Space} {src : Memref sig .tc sp S512x2048 .f32} {dst : Memref sig .tc .vmem S512x2048 .f32} {sem : DmaSem sig}
    {hsrc : src.view.WordExact} {hdst : dst.view.WordExact} (e2 : dst = wvblk (px v c)) (e3 : sem = wdS (px v c))
    (hl : (ob n c).all (fun p => decide (0 < levK p.2)) = true) :
    ctx m lam K ⊢ iprop(wf m v c -∗ Ob n c -∗ (wv m v c -∗ wd m v c -∗ Ob n c -∗ WP c (k ⟨⟩) Q)
        -∗ WP c (.op (.waitDma2 sem src dst hsrc hdst) k) Q) := by
  unfold wf Ob wd
  iintro #Hc Hf Ho Hk
  iapply (step_waitcopy m lam K c e2 e3 (N := Nw) rfl (lv_wd c _) (ob n c) hl) $$ Hc Hf Ho
  iintro ⟨Hd, Hs⟩ Hz Ho
  iapply Hk $$ Hd [Hs Hz] Ho
  iframe Hs Hz

theorem op_signal (j : Fin 3) (n : ℕ) {dv : Dev nD} (hdv : dv = px (bp j) c) (hob : ob n c = (px (bp j) c, .bar) :: ob (n + 1) c) :
    ctx m lam K ⊢ iprop(Ob n c -∗ tok (px (bp j) c, .bar) j -∗ offer j c -∗ (Ob (n + 1) c -∗ WP c (k ⟨⟩) Q)
        -∗ WP c (.op (.semSignal (Dev.tc dv) barS 1) k) Q) := by
  unfold Ob offer
  rw [hob]
  iintro #Hc Ho Ht ⟨H0, H1, H2, H3⟩ Hk
  iapply (step_signal m lam K c j hdv (ob (n + 1) c)) $$ Hc Ho Ht H0 H1 H2 H3 Hk

/-- The landing places of all the sends. -/
def rooms (c : Dev nD) : sProp 𝕄 :=
  iprop((room 1 c ∗ room 4 c ∗ room 6 c ∗ room 8 c) ∗ (room 2 c ∗ room 5 c ∗ room 10 c ∗ room 11 c) ∗ (room 3 c ∗ room 7 c ∗ room 9 c ∗ room 0 c))

theorem op_barwait (n : ℕ) (hl : (ob n c).all (fun p => decide (1 < levK p.2)) = true) :
    ctx m lam K ⊢ iprop(cred (tallyAt (kcell (c, .bar)) () 3) -∗ Ob n c -∗ pos (c, .bar)
        -∗ (Ob n c -∗ dn .bar c -∗ rooms c -∗ WP c (k ⟨⟩) Q)
        -∗ WP c (.op (.semWait barS 3) k) Q) := by
  unfold Ob
  iintro #Hc Hcr Ho Hat Hk
  iapply (step_barwait m lam K c (ob n c) hl) $$ Hc Hcr Ho Hat
  iintro Ho Hz H0 H1 H2
  iapply Hk $$ Ho [Hz] [H0 H1 H2]
  · unfold dn; iexact Hz
  unfold rooms
  isplitl [H0]
  · iapply (show barPay 0 c ⊢ iprop(room 1 c ∗ room 4 c ∗ room 6 c ∗ room 8 c) from Entails.refl) $$ H0
  isplitl [H1]
  · iapply (show barPay 1 c ⊢ iprop(room 2 c ∗ room 5 c ∗ room 10 c ∗ room 11 c) from Entails.refl) $$ H1
  iapply (show barPay 2 c ⊢ iprop(room 3 c ∗ room 7 c ∗ room 9 c ∗ room 0 c) from Entails.refl) $$ H2

theorem op_send (i : Fin 12) (n : ℕ) {src dst : Memref sig .tc .vmem S512x512 .bf16} {dv : Dev nD} {sS sR : DmaSem sig} {hsc : dst.view.ref.isScScratch = false}
    {hsrc : src.view.WordExact} {hdst : dst.view.WordExact}
    {hsem : DmaTarget.Typed .vmem (.dma sR) (.remote (Dev.tc dv : Thread nD τ) dst (.dma sS) hsc)}
    (e3 : dv = px (pp i) c) (e4 : sS = sndS i) (e5 : sR = rcvS i) (e1 : src = srcM i) (e2 : dst = dstM i)
    (hob : ob n c = (px (pp i) c, .rcv i) :: ob (n + 1) c) :
    ctx m lam K
      ⊢ iprop(full m i c -∗ room i c -∗ sperm i c -∗ Ob n c -∗ sendT i c
        -∗ (wt (.snd i) c -∗ Ob (n + 1) c -∗ WP c (k ⟨⟩) Q)
        -∗ WP c (.op (.enqueueDma src (.remote (Dev.tc dv : Thread nD τ) dst (.dma sS) hsc) (.dma sR) hsrc hdst hsem) k) Q) := by
  unfold full room Ob sendT wt
  rw [hob]
  iintro #Hc Hs Hd Hp Ho ⟨Ht1, Ht2, Hat⟩ Hk
  iapply (step_send m lam K c i e1 e2 e3 e4 e5 (ob (n + 1) c)) $$ Hc Hs Hd Hp Ho Ht1 Ht2
  iintro Hcr Ho
  iapply Hk $$ [Hcr Hat] Ho
  iframe Hcr Hat

theorem op_wait (kk : Kk) (n : ℕ) {sp sp' : Space} {s s' : Shape} {e e' : EltTy} {src : Memref sig .tc sp s e} {dst : Memref sig .tc sp' s' e'} {sem : DmaSem sig}
    {hsrc : src.view.WordExact} {hdst : dst.view.WordExact} (e3 : SemLoc.dma sem = csem kk) (hd : dutK c kk = {0}) (hN : dst.view.dmaCredit = amt kk)
    (hl : (ob n c).all (fun p => decide (levK kk < levK p.2)) = true) :
    ctx m lam K
      ⊢ iprop(wt kk c -∗ Ob n c -∗ (Ob n c -∗ dn kk c -∗ payK m lam c kk 0 -∗ WP c (k ⟨⟩) Q)
        -∗ WP c (.op (.waitDma2 sem src dst hsrc hdst) k) Q) := by
  unfold wt Ob
  iintro #Hc ⟨Hcr, Hat⟩ Ho Hk
  iapply (step_wait m lam K c kk e3 hd hN _ rfl (ob n c) hl) $$ Hc Hcr Ho Hat
  iintro Ho Hz Hp
  iapply Hk $$ Ho [Hz] Hp
  unfold dn; iexact Hz

/-- The wait that a send's source is free again. -/
theorem op_sent (i : Fin 12) {sp sp' : Space} {s s' : Shape} {e e' : EltTy} {src : Memref sig .tc sp s e} {dst : Memref sig .tc sp' s' e'} {sem : DmaSem sig}
    {hsrc : src.view.WordExact} {hdst : dst.view.WordExact} (e3 : sem = sndS i) (hN : dst.view.dmaCredit = Nslot) :
    ctx m lam K
      ⊢ iprop(wt (.snd i) c -∗ Ob 15 c -∗ (Ob 15 c -∗ dn (.snd i) c -∗ anyo c (srcM i) -∗ WP c (k ⟨⟩) Q)
        -∗ WP c (.op (.waitDma2 sem src dst hsrc hdst) k) Q) :=
  op_wait m lam K c (.snd i) 15 (congrArg _ e3) rfl hN rfl

theorem relay_eq (i i' : Fin 12) (h1 : dstM i = srcM i') (h2 : oo i ^^^ pp i = oo i') (h3 : ff i ^^^ pp i = ff i') :
    rcvPay m i c ⊢ iprop(full m i' c ∗ sperm i' c) := by
  have hp : ∀ i, pp i < 8 := by decide
  have ho : ∀ i, oo i < 8 := by decide
  have hf : ∀ i, ff i < 8 := by decide
  unfold rcvPay full sperm sx
  rw [px_px (ho i) (hp i), px_px (hf i) (hp i), h2, h3, h1]

/-- The wait for a block to be passed on. -/
theorem op_relay (i i' : Fin 12) (n : ℕ) {sp sp' : Space} {s s' : Shape} {e e' : EltTy} {src : Memref sig .tc sp s e} {dst : Memref sig .tc sp' s' e'} {sem : DmaSem sig}
    {hsrc : src.view.WordExact} {hdst : dst.view.WordExact} (e3 : sem = rcvS i) (h1 : dstM i = srcM i') (h2 : oo i ^^^ pp i = oo i')
    (h3 : ff i ^^^ pp i = ff i') (hN : dst.view.dmaCredit = Nslot)
    (hl : (ob n c).all (fun p => decide (levK (.rcv i) < levK p.2)) = true) :
    ctx m lam K
      ⊢ iprop(wt (.rcv i) c -∗ Ob n c -∗ (Ob n c -∗ dn (.rcv i) c -∗ full m i' c -∗ sperm i' c -∗ WP c (k ⟨⟩) Q)
        -∗ WP c (.op (.waitDma2 sem src dst hsrc hdst) k) Q) := by
  iintro #Hc Hw Ho Hk
  iapply (op_wait m lam K c (.rcv i) n (congrArg _ e3) rfl hN hl) $$ Hc Hw Ho
  iintro Ho Hz Hp
  ihave Hp' := (show payK m lam c (.rcv i) 0 ⊢ _ from relay_eq m c i i' h1 h2 h3) $$ Hp
  icases Hp' with ⟨H1, H2⟩
  iapply Hk $$ Ho Hz H1 H2

/-- The wait for a block that `c` itself multiplies. -/
theorem op_final (i : Fin 12) (sl : Fin 8) (v n : ℕ) {sp sp' : Space} {s s' : Shape} {e e' : EltTy} {src : Memref sig .tc sp s e} {dst : Memref sig .tc sp' s' e'} {sem : DmaSem sig}
    {hsrc : src.view.WordExact} {hdst : dst.view.WordExact} (e3 : sem = rcvS i) (h1 : dstM i = slotM rcM sl) (h2 : oo i ^^^ pp i = v)
    (h3 : ff i ^^^ pp i = 0) (hN : dst.view.dmaCredit = Nslot)
    (hl : (ob n c).all (fun p => decide (levK (.rcv i) < levK p.2)) = true) :
    ctx m lam K
      ⊢ iprop(wt (.rcv i) c -∗ Ob n c -∗ (Ob n c -∗ dn (.rcv i) c -∗ rc m sl v c -∗ anyo (px v c) (rowM c) -∗ WP c (k ⟨⟩) Q)
        -∗ WP c (.op (.waitDma2 sem src dst hsrc hdst) k) Q) := by
  have hp : ∀ i, pp i < 8 := by decide
  have ho : ∀ i, oo i < 8 := by decide
  have hf : ∀ i, ff i < 8 := by decide
  iintro #Hc Hw Ho Hk
  iapply (op_wait m lam K c (.rcv i) n (congrArg _ e3) rfl hN hl) $$ Hc Hw Ho
  iintro Ho Hz Hp
  ihave Hp' := (show payK m lam c (.rcv i) 0 ⊢ iprop(rc m sl v c ∗ anyo (px v c) (rowM c)) from by
    show rcvPay m i c ⊢ _
    unfold rcvPay sperm sx rc gb
    rw [px_px (ho i) (hp i), px_px (hf i) (hp i), h2, h3, h1, px_zero]) $$ Hp
  icases Hp' with ⟨H1, H2⟩
  iapply Hk $$ Ho Hz H1 H2

theorem am_half (d : ℕ) : amRest lam d c ⊢ iprop(amSh lam d c ∗ amRest lam (d + 1) c) :=
  (owns_halves (c : Thread nD τ) (rowM c) (rr d) (lam c)).1
theorem am_join (d : ℕ) : iprop(amSh lam d c ∗ amRest lam (d + 1) c) ⊢ amRest lam d c :=
  (owns_halves (c : Thread nD τ) (rowM c) (rr d) (lam c)).2

theorem op_amsend (d : Fin 7) (a n : ℕ) (ha : d.val = a) {src dst : Memref sig .tc .vmem S128 .f32} {dv : Dev nD} {sS sR : DmaSem sig} {hsc : dst.view.ref.isScScratch = false}
    {hsrc : src.view.WordExact} {hdst : dst.view.WordExact}
    {hsem : DmaTarget.Typed .vmem (.dma sR) (.remote (Dev.tc dv : Thread nD τ) dst (.dma sS) hsc)}
    (e3 : dv = rot (d.val + 1) c) (e4 : sS = asS d.succ) (e1 : src = rowM c) (e2 : dst = rowM c) (e5 : sR = arS c)
    (hob : ob n c = (rot (d.val + 1) c, .arv c) :: ob (n + 1) c) :
    ctx m lam K
      ⊢ iprop(amRest lam a c -∗ amRoom d c -∗ Ob n c -∗ amT d c
        -∗ (wt (.asd d) c -∗ amRest lam (a + 1) c -∗ Ob (n + 1) c -∗ WP c (k ⟨⟩) Q)
        -∗ WP c (.op (.enqueueDma src (.remote (Dev.tc dv : Thread nD τ) dst (.dma sS) hsc) (.dma sR) hsrc hdst hsem) k) Q) := by
  subst ha
  unfold amRoom Ob amT wt
  rw [hob]
  iintro #Hc Hs Hd Ho ⟨Ht1, Ht2, Hat⟩ Hk
  ihave Hs' := (am_half lam c d.val) $$ Hs
  icases Hs' with ⟨Hs, Hr⟩
  unfold amSh
  iapply (step_amsend m lam K c d e1 e2 e3 e4 e5 (ob (n + 1) c)) $$ Hc Hs Hd Ho Ht1 Ht2
  iintro Hcr Ho
  iapply Hk $$ [Hcr Hat] Hr Ho
  iframe Hcr Hat

theorem op_amwait (v : ℕ) (hv : rot v c ≠ c) {sp sp' : Space} {s s' : Shape} {e e' : EltTy} {src : Memref sig .tc sp s e} {dst : Memref sig .tc sp' s' e'} {sem : DmaSem sig}
    {hsrc : src.view.WordExact} {hdst : dst.view.WordExact} (e3 : sem = arS (rot v c)) (hN : dst.view.dmaCredit = Nrow) :
    ctx m lam K
      ⊢ iprop(wt (.arv (rot v c)) c -∗ Ob 22 c -∗ (Ob 22 c -∗ dn (.arv (rot v c)) c -∗ amGot lam v c -∗ WP c (k ⟨⟩) Q)
        -∗ WP c (.op (.waitDma2 sem src dst hsrc hdst) k) Q) :=
  op_wait m lam K c (.arv (rot v c)) 22 (congrArg _ e3) (if_neg hv) hN rfl

theorem op_amsent (d : Fin 7) (a : ℕ) (ha : d.val = a) {sp sp' : Space} {s s' : Shape} {e e' : EltTy} {src : Memref sig .tc sp s e} {dst : Memref sig .tc sp' s' e'} {sem : DmaSem sig}
    {hsrc : src.view.WordExact} {hdst : dst.view.WordExact} (e3 : sem = asS d.succ) (hN : dst.view.dmaCredit = Nrow) :
    ctx m lam K
      ⊢ iprop(wt (.asd d) c -∗ Ob 22 c -∗ (Ob 22 c -∗ dn (.asd d) c -∗ amSh lam a c -∗ WP c (k ⟨⟩) Q)
        -∗ WP c (.op (.waitDma2 sem src dst hsrc hdst) k) Q) :=
  ha ▸ op_wait m lam K c (.asd d) 22 (congrArg _ e3) rfl hN rfl

end Ops

end Cert.KernelIdeal.Pf

end
-- ==== Proof.KernelIdeal.Parts.lean ====
/-
What each part of the kernel's body does, from the handshake to the last block sent from the stage.
-/
module

public import proofs.«01_k».proof.Proof.KernelIdeal.Ops

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (lam : Dev nD → S128.Idx → Elt F .f32) (K : Dev nD × Kk → ℕ)

theorem to_anyo {sp : Space} {s : Shape} {e : EltTy} (c : Dev nD) (r : Memref sig .tc sp s e) (X : s.Idx → Elt F e) :
    owns (c : Thread nD τ) r fullShare X ⊢ (anyo c r : sProp 𝕄) := by
  unfold anyo; iintro H; iexists X; iexact H

theorem WP_ret (c : Dev nD) {α : Type} {a b : α} (h : a = b) (Q : α → sProp (MT nD τ sig Unit (Elt F) ℕ UU ℕ)) : Q b ⊢ WP c (.ret a) Q := by
  subst h
  unfold WP
  rw [wp_ret]
  iintro H
  imodintro
  iexact H

/-! ## The arithmetic of the parts -/

/-- Rounding a block for the journey, as the kernel writes it, is rounding it. -/
theorem pay2_eq (X : S512x512.Idx → Elt F .f32) :
    k0_pay2 (F := F) (unsq (e := .f32) X) = unsq (e := .bf16) (truncf (F := F) .bf16 X bitsLt_bf16_f32) := by
  unfold k0_pay2
  dsimp only
  rw [shapeCast_shapeCast]

/-- The product of a block of the left matrix and the matching rows of the right one. -/
def mm (X : S512x512.Idx → Elt F .bf16) (W : S512x2048.Idx → Elt F .f32) : S512x2048.Idx → Elt F .f32 :=
  matmul (φ₁ := .bf16) (φ₂ := .f32) dot_S512x512_S512x2048_S512x2048_1_0_0_1_n_n none X W (constant S512x2048 .f32 0x00000000#32)
/-- The same, added to a sum. -/
def mmAdd (A : S512x2048.Idx → Elt F .f32) (X : S512x512.Idx → Elt F .bf16) (W : S512x2048.Idx → Elt F .f32) : S512x2048.Idx → Elt F .f32 :=
  addf (s := S512x2048) (φ := .f32) A (mm X W)

theorem pay7_eq (X : S512x512.Idx → Elt F .bf16) (W : S512x2048.Idx → Elt F .f32) : k0_pay7 (F := F) (unsq (e := .bf16) X) W = mm X W := by
  unfold k0_pay7 mm
  dsimp only
  rw [shapeCast_shapeCast]
theorem pay11_eq (A : S512x2048.Idx → Elt F .f32) : k0_pay11 (F := F) A = A := shapeCast_self _ _
theorem pay12_eq (X : S512x512.Idx → Elt F .bf16) : k0_pay12 (F := F) (unsq (e := .bf16) X) = X := sq_unsq (e := .bf16) X
theorem pay13_eq (A : S512x2048.Idx → Elt F .f32) (X : S512x512.Idx → Elt F .bf16) (W : S512x2048.Idx → Elt F .f32) :
    k0_pay13 (F := F) A X W = mmAdd A X W := rfl
theorem pay14_eq (A : S512x2048.Idx → Elt F .f32) (X : S512x512.Idx → Elt F .bf16) (W : S512x2048.Idx → Elt F .f32) :
    k0_pay14 (F := F) A (unsq (e := .bf16) X) W = mmAdd A X W := by
  show k0_pay13 (k0_pay11 A) (k0_pay12 (unsq (e := .bf16) X)) W = _
  rw [pay11_eq, pay12_eq, pay13_eq]
theorem pay19_eq (A : S512x2048.Idx → Elt F .f32) (X : S512x512.Idx → Elt F .bf16) (W : S512x2048.Idx → Elt F .f32) :
    k0_pay19 (F := F) A (unsq (e := .bf16) X) W = mmAdd A X W := by
  show k0_pay13 A (k0_pay12 (unsq (e := .bf16) X)) W = _
  rw [pay12_eq, pay13_eq]

/-- The sum of the products over the devices at a list of places, the last of the list added first, on top of the own one. -/
def acc (c : Dev nD) : List ℕ → S512x2048.Idx → Elt F .f32
  | [] => mm (gb m 0 c) (wraw m c (px 0 c))
  | v :: l => mmAdd (acc c l) (gb m v c) (wraw m c (px v c))

/-! ## Loads and stores, over the bundles -/

theorem stg_full (c : Dev nD) (i : Fin 12) (t : Fin 8) (h : srcM i = slotM sgM t) (h0 : oo i = 0) :
    owns (c : Thread nD τ) (slotM sgM t) fullShare (truncf .bf16 (xraw m c (px (ff i) c)) bitsLt_bf16_f32) ⊢ (full m i c : sProp 𝕄) := by
  unfold full sx xb
  rw [h, h0, px_zero]

/-- The own block, rounded. -/
def own4 (c : Dev nD) : sProp 𝕄 := owns (c : Thread nD τ) (slotM sgM 4) fullShare (gb m 0 c)
theorem stg_own (c : Dev nD) :
    owns (c : Thread nD τ) (slotM sgM 4) fullShare (truncf .bf16 (xraw m c (px 0 c)) bitsLt_bf16_f32) ⊢ (own4 m c : sProp 𝕄) := by
  unfold own4 gb xb
  rw [px_zero]

section Mem
variable (c : Dev nD) {α : Type} {Q : α → sProp (MT nD τ sig Unit (Elt F) ℕ UU ℕ)} {k : PUnit → Prog (TpuEff nD τ sig (Elt F) Λ₀ .tc) α}

/-- A landed block, rounded and put on the stage. -/
theorem op_stage (s : Fin 4) (t : Fin 8) {pay : (S1x512x512.Idx → Elt F .f32) → S1x512x512.Idx → Elt F .bf16} (X : S512x512.Idx → Elt F .f32)
    {P : sProp (MT nD τ sig Unit (Elt F) ℕ UU ℕ)} (hp : pay (unsq X) = unsq (e := .bf16) (truncf .bf16 X bitsLt_bf16_f32))
    (hP : owns (c : Thread nD τ) (slotM sgM t) fullShare (truncf .bf16 X bitsLt_bf16_f32) ⊢ P)
    {hl : xlM.view.LoadsAt (slotR 4 s).toLoadRect} {hl' : sgM.view.LoadsAt (slotR 8 t).toLoadRect} {hx} {hm} :
    owns (c : Thread nD τ) (slotM xlM s) fullShare X
      ⊢ iprop(sg t c -∗ (xl s c -∗ P -∗ WP c (k ⟨⟩) Q)
        -∗ WP c (.op (.load xlM (slotR 4 s).toLoadRect hl) fun v => .op (.load sgM (slotR 8 t).toLoadRect hl') fun _ =>
            .op (.store sgM (slotR 8 t) (pay v) Finset.univ hx hm) k) Q) := by
  unfold sg anyo
  iintro Hx Hs Hk
  iapply (step_load c s fullShare X) $$ Hx
  iintro Hx
  icases Hs with ⟨%Y, Hs⟩
  iapply (step_load c t fullShare Y) $$ Hs
  iintro Hs
  iapply (step_store c t (truncf .bf16 X bitsLt_bf16_f32) Y hp) $$ Hs
  iintro Hs
  ihave Hs := hP $$ Hs
  iapply Hk $$ [Hx] Hs
  unfold xl; iapply (to_anyo c _ _) $$ Hx

theorem op_loadown {hl : sgM.view.LoadsAt (slotR 8 4).toLoadRect} {k : (S1x512x512.Idx → Elt F .bf16) → Prog (TpuEff nD τ sig (Elt F) Λ₀ .tc) α} :
    own4 m c ⊢ iprop((own4 m c -∗ WP c (k (unsq (gb m 0 c))) Q) -∗ WP c (.op (.load sgM (slotR 8 4).toLoadRect hl) k) Q) :=
  step_load c 4 fullShare (gb m 0 c)
theorem op_loadrc (s : Fin 8) (v : ℕ) {hl : rcM.view.LoadsAt (slotR 8 s).toLoadRect} {k : (S1x512x512.Idx → Elt F .bf16) → Prog (TpuEff nD τ sig (Elt F) Λ₀ .tc) α} :
    rc m s v c ⊢ iprop((rc m s v c -∗ WP c (k (unsq (gb m v c))) Q) -∗ WP c (.op (.load rcM (slotR 8 s).toLoadRect hl) k) Q) :=
  step_load c s fullShare (gb m v c)
theorem op_loadw (v : ℕ) {off : Fin 2 → ℕ} {h} (ho : off = ![512 * (px v c).val, 0]) {hl : wvM.view.LoadsAt (Rect.unit (s := S4096x2048) off S512x2048.size h).toLoadRect}
    {k : (S512x2048.Idx → Elt F .f32) → Prog (TpuEff nD τ sig (Elt F) Λ₀ .tc) α} :
    wv m v c ⊢ iprop((wv m v c -∗ WP c (k (wraw m c (px v c))) Q)
        -∗ WP c (.op (.load wvM (Rect.unit (s := S4096x2048) off S512x2048.size h).toLoadRect hl) k) Q) :=
  step_loadw c (px v c) ho fullShare (wraw m c (px v c))
theorem op_loado {hl : oM.view.LoadsAt oR.toLoadRect}
    {k : (S512x2048.Idx → Elt F .f32) → Prog (TpuEff nD τ sig (Elt F) Λ₀ .tc) α} (X : S512x2048.Idx → Elt F .f32) :
    out c X ⊢ iprop((out c X -∗ WP c (k X) Q) -∗ WP c (.op (.load oM oR.toLoadRect hl) k) Q) :=
  step_loado c X
theorem op_storeo {w : S512x2048.Idx → Elt F .f32} {hx} {hm} (w' Y : S512x2048.Idx → Elt F .f32) (hw : w = w') :
    out c Y ⊢ iprop((out c w' -∗ WP c (k ⟨⟩) Q) -∗ WP c (.op (.store oM oR w Finset.univ hx hm) k) Q) := by
  subst hw
  exact step_storeo c Y

end Mem

/-! ## The parts -/

section Parts
variable (c : Dev nD)
variable {h0 : xA.IsWhole} {h1 : wA.IsWhole} {h2 : oM.IsWhole} {h3 : xlM.IsWhole} {h4 : sgM.IsWhole} {h5 : rcM.IsWhole} {h6 : rlM.IsWhole}
  {h7 : wvM.IsWhole} {h8 : amM.IsWhole}

abbrev barA : Sems sig S_ := SemArray.scalar (sig.barrier 0 rfl)

theorem part1_spec {Q} :
    ctx m lam K ⊢ iprop(Ob 0 c -∗ tok (px (bp 0) c, .bar) 0 -∗ tok (px (bp 1) c, .bar) 1 -∗ tok (px (bp 2) c, .bar) 2 -∗ offer 0 c -∗ offer 1 c -∗ offer 2 c
      -∗ xh m 2 c -∗ xl 0 c -∗ dz c (xdS 0)
      -∗ (∀ a2 a3 a4 a5 a16 a17 a18 a19, Ob 3 c -∗ xf m 0 2 c -∗ Q ⟨c, a2, a3, a4, a5, barA, a16, a17, a18, a19⟩)
      -∗ WP c (k0_part1 xA h0 wA h1 oM h2 xlM h3 sgM h4 rcM h5 rlM h6 wvM h7 amM h8 cc0_scratch6 cc0_scratch7 cc0_scratch8 cc0_scratch9 cc0_scratch10 cc0_scratch11 cc0_scratch12) Q) := by
  rw [k0_part1_eq_skeleton]
  unfold k0_part1_skel
  simp only [semSignalWord, semWaitWord, Prog.lift, Prog.bind_op, Prog.bind_ret, Prog.pure_eq_ret, wp_deviceId]
  iintro #Hc Ho Ht0 Ht1 Ht2 Hf0 Hf1 Hf2 Hx Hl Hz Hk
  iapply (op_signal m lam K c 0 0 (dev1_eq c) rfl) $$ Hc Ho Ht0 Hf0
  iintro Ho
  iapply (op_signal m lam K c 1 1 (dev2_eq c) rfl) $$ Hc Ho Ht1 Hf1
  iintro Ho
  iapply (op_signal m lam K c 2 2 (dev3_eq c) rfl) $$ Hc Ho Ht2 Hf2
  iintro Ho
  iapply (op_xcopy m c 0 2 (xsl c 2) rfl (xd_eq 0)) $$ Hx Hl Hz
  iintro Hf
  iapply (WP_ret c rfl _)
  iapply Hk $$ Ho Hf

theorem part2_spec (v2 v18 v19 : BitVec 32) {Q} :
    xh m 7 c ⊢ iprop(xl 1 c -∗ dz c (xdS 1) -∗ xh m 5 c -∗ xl 2 c -∗ dz c (xdS 2) -∗ xh m 6 c -∗ xl 3 c -∗ dz c (xdS 3) -∗ wq m 0 c
      -∗ (xf m 1 7 c -∗ xf m 2 5 c -∗ xf m 3 6 c -∗ wf m 0 c -∗ Q ⟨⟩)
      -∗ WP c (k0_part2 xA h0 wA h1 oM h2 xlM h3 sgM h4 rcM h5 rlM h6 wvM h7 amM h8 cc0_scratch6 cc0_scratch7 cc0_scratch8 cc0_scratch9 cc0_scratch10 cc0_scratch11 cc0_scratch12 c v2 v18 v19) Q) := by
  rw [k0_part2_eq_skeleton]
  unfold k0_part2_skel
  simp only [semSignalWord, semWaitWord, Prog.lift, Prog.bind_op, Prog.bind_ret, Prog.pure_eq_ret, wp_deviceId]
  iintro Hx1 Hl1 Hz1 Hx2 Hl2 Hz2 Hx3 Hl3 Hz3 Hw Hk
  iapply (op_xcopy m c 1 7 (xsl c 7) rfl (xd_eq 1)) $$ Hx1 Hl1 Hz1
  iintro Hf1
  iapply (op_xcopy m c 2 5 (xsl c 5) rfl (xd_eq 2)) $$ Hx2 Hl2 Hz2
  iintro Hf2
  iapply (op_xcopy m c 3 6 (xsl c 6) rfl (xd_eq 3)) $$ Hx3 Hl3 Hz3
  iintro Hf3
  iapply (op_wcopy m c 0 (wsl c 0) (wvsl c 0) (wdsl c 0)) $$ Hw
  iintro Hw
  iapply (WP_ret c rfl _)
  iapply Hk $$ Hf1 Hf2 Hf3 Hw

theorem part3_spec (v2 : BitVec 32) {Q} :
    wq m 2 c ⊢ iprop(wq m 7 c -∗ wq m 5 c -∗ wq m 4 c -∗ wq m 1 c
      -∗ (∀ a b, wf m 2 c -∗ wf m 7 c -∗ wf m 5 c -∗ wf m 4 c -∗ wf m 1 c -∗ Q ⟨a, b⟩)
      -∗ WP c (k0_part3 xA h0 wA h1 oM h2 xlM h3 sgM h4 rcM h5 rlM h6 wvM h7 amM h8 cc0_scratch6 cc0_scratch7 cc0_scratch8 cc0_scratch9 cc0_scratch10 cc0_scratch11 cc0_scratch12 c v2) Q) := by
  rw [k0_part3_eq_skeleton]
  unfold k0_part3_skel
  simp only [semSignalWord, semWaitWord, Prog.lift, Prog.bind_op, Prog.bind_ret, Prog.pure_eq_ret, wp_deviceId]
  iintro H2 H7 H5 H4 H1 Hk
  iapply (op_wcopy m c 2 (wsl c 2) (wvsl c 2) (wdsl c 2)) $$ H2
  iintro H2
  iapply (op_wcopy m c 7 (wsl c 7) (wvsl c 7) (wdsl c 7)) $$ H7
  iintro H7
  iapply (op_wcopy m c 5 (wsl c 5) (wvsl c 5) (wdsl c 5)) $$ H5
  iintro H5
  iapply (op_wcopy m c 4 (wsl c 4) (wvsl c 4) (wdsl c 4)) $$ H4
  iintro H4
  iapply (op_wcopy m c 1 (wsl c 1) (wvsl c 1) (wdsl c 1)) $$ H1
  iintro H1
  iapply (WP_ret c rfl _)
  iapply Hk $$ H2 H7 H5 H4 H1

theorem part4_spec (v2 v16 v86 v87 : BitVec 32) {Q} :
    ctx m lam K ⊢ iprop(wq m 3 c -∗ wq m 6 c -∗ cred (tallyAt (kcell (c, .bar)) () 3) -∗ Ob 3 c -∗ pos (c, .bar) -∗ xf m 0 2 c -∗ sg 0 c
      -∗ (wf m 3 c -∗ wf m 6 c -∗ dn .bar c -∗ rooms c -∗ Ob 3 c -∗ xh m 2 c -∗ dz c (xdS 0) -∗ xl 0 c -∗ full m 1 c -∗ Q ⟨⟩)
      -∗ WP c (k0_part4 xA h0 wA h1 oM h2 xlM h3 sgM h4 rcM h5 rlM h6 wvM h7 amM h8 cc0_scratch6 cc0_scratch7 cc0_scratch8 cc0_scratch9 cc0_scratch10 cc0_scratch11 cc0_scratch12 c v2 barA v16 v86 v87) Q) := by
  rw [k0_part4_eq_skeleton]
  unfold k0_part4_skel
  simp only [semSignalWord, semWaitWord, Prog.lift, Prog.bind_op, Prog.bind_ret, Prog.pure_eq_ret, wp_deviceId]
  iintro #Hc H3 H6 Hcr Ho Hat Hf Hs Hk
  iapply (op_wcopy m c 3 (wsl c 3) (wvsl c 3) (wdsl c 3)) $$ H3
  iintro H3
  iapply (op_wcopy m c 6 (wsl c 6) (wvsl c 6) (wdsl c 6)) $$ H6
  iintro H6
  iapply (op_barwait m lam K c 3 rfl) $$ Hc Hcr Ho Hat
  iintro Ho Hb Hr
  iapply (op_xwait m lam K c 0 2 3 rfl (xd_eq 0) rfl) $$ Hc Hf Ho
  iintro Hl Hx Hz Ho
  iapply (op_stage c 0 0 (pay := k0_pay2) (xraw m c (px 2 c)) (pay2_eq _) (stg_full m c 1 0 rfl rfl)) $$ Hl Hs
  iintro Hl Hs
  iapply (WP_ret c rfl _)
  iapply Hk $$ H3 H6 Hb Hr Ho Hx Hz Hl Hs

theorem part5_spec (v3 v17 : BitVec 32) {Q} :
    ctx m lam K ⊢ iprop(xh m 0 c -∗ xl 0 c -∗ dz c (xdS 0) -∗ full m 1 c -∗ room 1 c -∗ sperm 1 c -∗ Ob 3 c -∗ sendT 1 c -∗ xf m 1 7 c -∗ sg 1 c
      -∗ (xf m 0 0 c -∗ wt (.snd 1) c -∗ Ob 4 c -∗ xh m 7 c -∗ dz c (xdS 1) -∗ xl 1 c -∗ full m 2 c -∗ Q ⟨⟩)
      -∗ WP c (k0_part5 xA h0 wA h1 oM h2 xlM h3 sgM h4 rcM h5 rlM h6 wvM h7 amM h8 cc0_scratch6 cc0_scratch7 cc0_scratch8 cc0_scratch9 cc0_scratch10 cc0_scratch11 cc0_scratch12 c v3 v17) Q) := by
  rw [k0_part5_eq_skeleton]
  unfold k0_part5_skel
  simp only [semSignalWord, semWaitWord, Prog.lift, Prog.bind_op, Prog.bind_ret, Prog.pure_eq_ret, wp_deviceId]
  iintro #Hc Hx Hl Hz Hs Hr Hp Ho Ht Hxf Hsg Hk
  iapply (op_xcopy m c 0 0 (xsl0 c) rfl (xd_eq 0)) $$ Hx Hl Hz
  iintro Hf
  iapply (op_send m lam K c 1 3 (dev4_eq c) (snd_eq 1) (rr_eq 0) rfl rfl rfl) $$ Hc Hs Hr Hp Ho Ht
  iintro Hw Ho
  iapply (op_xwait m lam K c 1 7 4 rfl (xd_eq 1) rfl) $$ Hc Hxf Ho
  iintro Hl Hx Hz Ho
  iapply (op_stage c 1 1 (pay := k0_pay3) (xraw m c (px 7 c)) (pay2_eq _) (stg_full m c 2 1 rfl rfl)) $$ Hl Hsg
  iintro Hl Hs
  iapply (WP_ret c rfl _)
  iapply Hk $$ Hf Hw Ho Hx Hz Hl Hs

theorem part6_spec (v4 v5 v18 : BitVec 32) {Q} :
    ctx m lam K ⊢ iprop(xh m 1 c -∗ xl 1 c -∗ dz c (xdS 1) -∗ full m 2 c -∗ room 2 c -∗ sperm 2 c -∗ Ob 4 c -∗ sendT 2 c -∗ xf m 2 5 c -∗ sg 2 c
      -∗ (xf m 1 1 c -∗ wt (.snd 2) c -∗ Ob 5 c -∗ xh m 5 c -∗ dz c (xdS 2) -∗ xl 2 c -∗ full m 3 c -∗ Q ⟨⟩)
      -∗ WP c (k0_part6 xA h0 wA h1 oM h2 xlM h3 sgM h4 rcM h5 rlM h6 wvM h7 amM h8 cc0_scratch6 cc0_scratch7 cc0_scratch8 cc0_scratch9 cc0_scratch10 cc0_scratch11 cc0_scratch12 c v4 v5 v18) Q) := by
  rw [k0_part6_eq_skeleton]
  unfold k0_part6_skel
  simp only [semSignalWord, semWaitWord, Prog.lift, Prog.bind_op, Prog.bind_ret, Prog.pure_eq_ret, wp_deviceId]
  iintro #Hc Hx Hl Hz Hs Hr Hp Ho Ht Hxf Hsg Hk
  iapply (op_xcopy m c 1 1 (xsl c 1) rfl (xd_eq 1)) $$ Hx Hl Hz
  iintro Hf
  iapply (op_send m lam K c 2 4 (dev5_eq c) (snd_eq 2) (rr_eq 2) rfl rfl rfl) $$ Hc Hs Hr Hp Ho Ht
  iintro Hw Ho
  iapply (op_xwait m lam K c 2 5 5 rfl (xd_eq 2) rfl) $$ Hc Hxf Ho
  iintro Hl Hx Hz Ho
  iapply (op_stage c 2 2 (pay := k0_pay4) (xraw m c (px 5 c)) (pay2_eq _) (stg_full m c 3 2 rfl rfl)) $$ Hl Hsg
  iintro Hl Hs
  iapply (WP_ret c rfl _)
  iapply Hk $$ Hf Hw Ho Hx Hz Hl Hs

theorem part7_spec (v4 v5 v19 : BitVec 32) {Q} :
    ctx m lam K ⊢ iprop(xh m 4 c -∗ xl 2 c -∗ dz c (xdS 2) -∗ full m 3 c -∗ room 3 c -∗ sperm 3 c -∗ Ob 5 c -∗ sendT 3 c -∗ xf m 3 6 c -∗ sg 3 c
      -∗ (xf m 2 4 c -∗ wt (.snd 3) c -∗ Ob 6 c -∗ xh m 6 c -∗ dz c (xdS 3) -∗ xl 3 c -∗ full m 4 c -∗ Q ⟨⟩)
      -∗ WP c (k0_part7 xA h0 wA h1 oM h2 xlM h3 sgM h4 rcM h5 rlM h6 wvM h7 amM h8 cc0_scratch6 cc0_scratch7 cc0_scratch8 cc0_scratch9 cc0_scratch10 cc0_scratch11 cc0_scratch12 c v4 v5 v19) Q) := by
  rw [k0_part7_eq_skeleton]
  unfold k0_part7_skel
  simp only [semSignalWord, semWaitWord, Prog.lift, Prog.bind_op, Prog.bind_ret, Prog.pure_eq_ret, wp_deviceId]
  iintro #Hc Hx Hl Hz Hs Hr Hp Ho Ht Hxf Hsg Hk
  iapply (op_xcopy m c 2 4 (xsl c 4) rfl (xd_eq 2)) $$ Hx Hl Hz
  iintro Hf
  iapply (op_send m lam K c 3 5 (dev6_eq c) (snd_eq 3) (rr_eq 1) rfl rfl rfl) $$ Hc Hs Hr Hp Ho Ht
  iintro Hw Ho
  iapply (op_xwait m lam K c 3 6 6 rfl (xd_eq 3) rfl) $$ Hc Hxf Ho
  iintro Hl Hx Hz Ho
  iapply (op_stage c 3 3 (pay := k0_pay5) (xraw m c (px 6 c)) (pay2_eq _) (stg_full m c 4 3 rfl rfl)) $$ Hl Hsg
  iintro Hl Hs
  iapply (WP_ret c rfl _)
  iapply Hk $$ Hf Hw Ho Hx Hz Hl Hs

theorem part8_spec (v2 v3 : BitVec 32) {Q} :
    ctx m lam K ⊢ iprop(xh m 3 c -∗ xl 3 c -∗ dz c (xdS 3) -∗ full m 4 c -∗ room 4 c -∗ sperm 4 c -∗ Ob 6 c -∗ sendT 4 c -∗ xf m 0 0 c -∗ sg 4 c
      -∗ (xf m 3 3 c -∗ wt (.snd 4) c -∗ Ob 7 c -∗ xh m 0 c -∗ dz c (xdS 0) -∗ xl 0 c -∗ own4 m c -∗ Q ⟨⟩)
      -∗ WP c (k0_part8 xA h0 wA h1 oM h2 xlM h3 sgM h4 rcM h5 rlM h6 wvM h7 amM h8 cc0_scratch6 cc0_scratch7 cc0_scratch8 cc0_scratch9 cc0_scratch10 cc0_scratch11 cc0_scratch12 c v2 v3) Q) := by
  rw [k0_part8_eq_skeleton]
  unfold k0_part8_skel
  simp only [semSignalWord, semWaitWord, Prog.lift, Prog.bind_op, Prog.bind_ret, Prog.pure_eq_ret, wp_deviceId]
  iintro #Hc Hx Hl Hz Hs Hr Hp Ho Ht Hxf Hsg Hk
  iapply (op_xcopy m c 3 3 (xsl c 3) rfl (xd_eq 3)) $$ Hx Hl Hz
  iintro Hf
  iapply (op_send m lam K c 4 6 (dev7_eq c) (snd_eq 4) (rr_eq 3) rfl rfl rfl) $$ Hc Hs Hr Hp Ho Ht
  iintro Hw Ho
  iapply (op_xwait m lam K c 0 0 7 rfl (xd_eq 0) rfl) $$ Hc Hxf Ho
  iintro Hl Hx Hz Ho
  iapply (op_stage c 0 4 (pay := k0_pay6) (xraw m c (px 0 c)) (pay2_eq _) (stg_own m c)) $$ Hl Hsg
  iintro Hl Hs
  iapply (WP_ret c rfl _)
  iapply Hk $$ Hf Hw Ho Hx Hz Hl Hs

theorem part9_spec (v2 v4 : BitVec 32) (X : S512x2048.Idx → Elt F .f32) {Q} :
    ctx m lam K ⊢ iprop(wf m 0 c -∗ own4 m c -∗ out c X -∗ wt (.rcv 1) c -∗ room 5 c -∗ sendT 5 c -∗ Ob 7 c
      -∗ (wv m 0 c -∗ wd m 0 c -∗ own4 m c -∗ out c (acc m c []) -∗ dn (.rcv 1) c -∗ wt (.snd 5) c -∗ Ob 8 c -∗ Q ⟨⟩)
      -∗ WP c (k0_part9 xA h0 wA h1 oM h2 xlM h3 sgM h4 rcM h5 rlM h6 wvM h7 amM h8 cc0_scratch6 cc0_scratch7 cc0_scratch8 cc0_scratch9 cc0_scratch10 cc0_scratch11 cc0_scratch12 c v2 v4) Q) := by
  rw [k0_part9_eq_skeleton]
  unfold k0_part9_skel
  simp only [semSignalWord, semWaitWord, Prog.lift, Prog.bind_op, Prog.bind_ret, Prog.pure_eq_ret, wp_deviceId]
  iintro #Hc Hf Hs Hout Hw Hr Ht Ho Hk
  iapply (op_wwait m lam K c 0 7 (wvsl0 c) (wdsl0 c) rfl) $$ Hc Hf Ho
  iintro Hv Hd Ho
  iapply (op_loadown m c) $$ Hs
  iintro Hs
  iapply (op_loadw m c 0 ((off7_eq c).trans (by rw [px_zero]))) $$ Hv
  iintro Hv
  iapply (op_loado c X) $$ Hout
  iintro Hout
  iapply (op_storeo c (acc m c []) X (pay7_eq _ _)) $$ Hout
  iintro Hout
  iapply (op_relay m lam K c 1 5 7 (rr_eq 0) rfl rfl rfl (by rfl) rfl) $$ Hc Hw Ho
  iintro Ho Hn Hs5 Hp5
  iapply (op_send m lam K c 5 7 (dev8_eq c) (snd_eq 5) (fr_eq 2) rfl rfl rfl) $$ Hc Hs5 Hr Hp5 Ho Ht
  iintro Hw Ho
  iapply (WP_ret c rfl _)
  iapply Hk $$ Hv Hd Hs Hout Hn Hw Ho

theorem part10_spec (v2 v3 : BitVec 32) {Q} :
    ctx m lam K ⊢ iprop(wt (.rcv 3) c -∗ room 6 c -∗ sendT 6 c -∗ wt (.rcv 2) c -∗ Ob 8 c
      -∗ (dn (.rcv 3) c -∗ wt (.snd 6) c -∗ dn (.rcv 2) c -∗ full m 7 c -∗ sperm 7 c -∗ Ob 9 c -∗ Q ⟨⟩)
      -∗ WP c (k0_part10 xA h0 wA h1 oM h2 xlM h3 sgM h4 rcM h5 rlM h6 wvM h7 amM h8 cc0_scratch6 cc0_scratch7 cc0_scratch8 cc0_scratch9 cc0_scratch10 cc0_scratch11 cc0_scratch12 c v2 v3) Q) := by
  rw [k0_part10_eq_skeleton]
  unfold k0_part10_skel
  simp only [semSignalWord, semWaitWord, Prog.lift, Prog.bind_op, Prog.bind_ret, Prog.pure_eq_ret, wp_deviceId]
  iintro #Hc Hw Hr Ht Hw2 Ho Hk
  iapply (op_relay m lam K c 3 6 8 (rr_eq 1) rfl rfl rfl (by rfl) rfl) $$ Hc Hw Ho
  iintro Ho Hn Hs Hp
  iapply (op_send m lam K c 6 8 (dev9_eq c) (snd_eq 6) (fr_eq 5) rfl rfl rfl) $$ Hc Hs Hr Hp Ho Ht
  iintro Hw Ho
  iapply (op_relay m lam K c 2 7 9 (rr_eq 2) rfl rfl rfl (by rfl) rfl) $$ Hc Hw2 Ho
  iintro Ho Hn2 Hs Hp
  iapply (WP_ret c rfl _)
  iapply Hk $$ Hn Hw Hn2 Hs Hp Ho

theorem part11_spec (v3 v5 : BitVec 32) {Q} :
    ctx m lam K ⊢ iprop(full m 7 c -∗ room 7 c -∗ sperm 7 c -∗ sendT 7 c -∗ Ob 9 c -∗ xf m 1 1 c -∗ sg 5 c
      -∗ (wt (.snd 7) c -∗ Ob 10 c -∗ xh m 1 c -∗ dz c (xdS 1) -∗ xl 1 c -∗ full m 8 c -∗ Q ⟨⟩)
      -∗ WP c (k0_part11 xA h0 wA h1 oM h2 xlM h3 sgM h4 rcM h5 rlM h6 wvM h7 amM h8 cc0_scratch6 cc0_scratch7 cc0_scratch8 cc0_scratch9 cc0_scratch10 cc0_scratch11 cc0_scratch12 c v3 v5) Q) := by
  rw [k0_part11_eq_skeleton]
  unfold k0_part11_skel
  simp only [semSignalWord, semWaitWord, Prog.lift, Prog.bind_op, Prog.bind_ret, Prog.pure_eq_ret, wp_deviceId]
  iintro #Hc Hs Hr Hp Ht Ho Hxf Hsg Hk
  iapply (op_send m lam K c 7 9 (dev10_eq c) (snd_eq 7) (fr_eq 7) rfl rfl rfl) $$ Hc Hs Hr Hp Ho Ht
  iintro Hw Ho
  iapply (op_xwait m lam K c 1 1 10 rfl (xd_eq 1) rfl) $$ Hc Hxf Ho
  iintro Hl Hx Hz Ho
  iapply (op_stage c 1 5 (pay := k0_pay8) (xraw m c (px 1 c)) (pay2_eq _) (stg_full m c 8 5 rfl rfl)) $$ Hl Hsg
  iintro Hl Hs
  iapply (WP_ret c rfl _)
  iapply Hk $$ Hw Ho Hx Hz Hl Hs

theorem part12_spec (v2 v5 : BitVec 32) {Q} :
    ctx m lam K ⊢ iprop(full m 8 c -∗ room 8 c -∗ sperm 8 c -∗ sendT 8 c -∗ Ob 10 c -∗ xf m 2 4 c -∗ sg 6 c -∗ room 9 c -∗ sperm 9 c -∗ sendT 9 c
      -∗ (wt (.snd 8) c -∗ Ob 12 c -∗ xh m 4 c -∗ dz c (xdS 2) -∗ xl 2 c -∗ wt (.snd 9) c -∗ Q ⟨⟩)
      -∗ WP c (k0_part12 xA h0 wA h1 oM h2 xlM h3 sgM h4 rcM h5 rlM h6 wvM h7 amM h8 cc0_scratch6 cc0_scratch7 cc0_scratch8 cc0_scratch9 cc0_scratch10 cc0_scratch11 cc0_scratch12 c v2 v5) Q) := by
  rw [k0_part12_eq_skeleton]
  unfold k0_part12_skel
  simp only [semSignalWord, semWaitWord, Prog.lift, Prog.bind_op, Prog.bind_ret, Prog.pure_eq_ret, wp_deviceId]
  iintro #Hc Hs Hr Hp Ht Ho Hxf Hsg Hr9 Hp9 Ht9 Hk
  iapply (op_send m lam K c 8 10 (dev11_eq c) (snd_eq 8) (fr_eq 1) rfl rfl rfl) $$ Hc Hs Hr Hp Ho Ht
  iintro Hw Ho
  iapply (op_xwait m lam K c 2 4 11 rfl (xd_eq 2) rfl) $$ Hc Hxf Ho
  iintro Hl Hx Hz Ho
  iapply (op_stage c 2 6 (pay := k0_pay9) (xraw m c (px 4 c)) (pay2_eq _) (stg_full m c 9 6 rfl rfl)) $$ Hl Hsg
  iintro Hl Hs
  iapply (op_send m lam K c 9 11 (dev12_eq c) (snd_eq 9) (fr_eq 4) rfl rfl rfl) $$ Hc Hs Hr9 Hp9 Ho Ht9
  iintro Hw9 Ho
  iapply (WP_ret c rfl _)
  iapply Hk $$ Hw Ho Hx Hz Hl Hw9

theorem part13_spec (v4 : BitVec 32) {Q} :
    ctx m lam K ⊢ iprop(wt (.rcv 4) c -∗ room 10 c -∗ sendT 10 c -∗ Ob 12 c -∗ xf m 3 3 c -∗ sg 7 c
      -∗ (dn (.rcv 4) c -∗ wt (.snd 10) c -∗ Ob 13 c -∗ xh m 3 c -∗ dz c (xdS 3) -∗ xl 3 c -∗ full m 11 c -∗ Q ⟨⟩)
      -∗ WP c (k0_part13 xA h0 wA h1 oM h2 xlM h3 sgM h4 rcM h5 rlM h6 wvM h7 amM h8 cc0_scratch6 cc0_scratch7 cc0_scratch8 cc0_scratch9 cc0_scratch10 cc0_scratch11 cc0_scratch12 c v4) Q) := by
  rw [k0_part13_eq_skeleton]
  unfold k0_part13_skel
  simp only [semSignalWord, semWaitWord, Prog.lift, Prog.bind_op, Prog.bind_ret, Prog.pure_eq_ret, wp_deviceId]
  iintro #Hc Hw Hr Ht Ho Hxf Hsg Hk
  iapply (op_relay m lam K c 4 10 12 (rr_eq 3) rfl rfl rfl (by rfl) rfl) $$ Hc Hw Ho
  iintro Ho Hn Hs Hp
  iapply (op_send m lam K c 10 12 (dev13_eq c) (snd_eq 10) (rr_eq 4) rfl rfl rfl) $$ Hc Hs Hr Hp Ho Ht
  iintro Hw Ho
  iapply (op_xwait m lam K c 3 3 13 rfl (xd_eq 3) rfl) $$ Hc Hxf Ho
  iintro Hl Hx Hz Ho
  iapply (op_stage c 3 7 (pay := k0_pay10) (xraw m c (px 3 c)) (pay2_eq _) (stg_full m c 11 7 rfl rfl)) $$ Hl Hsg
  iintro Hl Hs
  iapply (WP_ret c rfl _)
  iapply Hk $$ Hn Hw Ho Hx Hz Hl Hs

end Parts

end Cert.KernelIdeal.Pf

end
-- ==== Proof.KernelIdeal.Parts2.lean ====
/-
What each part of the kernel's body does, from the first block received to the exchange of the greatest values.
-/
module

public import proofs.«01_k».proof.Proof.KernelIdeal.Parts

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (lam : Dev nD → S128.Idx → Elt F .f32) (K : Dev nD × Kk → ℕ)

theorem rot_ne (c : Dev nD) : ∀ v : Fin 8, v ≠ 0 → rot v.val c ≠ c := by revert c; decide +kernel

/-- One block taken in: the sum is loaded, the block times its rows is added, the sum is put back. -/
theorem op_acc (c : Dev nD) {α : Type} {Q : α → sProp (MT nD τ sig Unit (Elt F) ℕ UU ℕ)} {k : PUnit → Prog (TpuEff nD τ sig (Elt F) Λ₀ .tc) α}
    (s : Fin 8) (v : ℕ) (A : S512x2048.Idx → Elt F .f32) {pay : (S512x2048.Idx → Elt F .f32) → (S1x512x512.Idx → Elt F .bf16) → (S512x2048.Idx → Elt F .f32) → S512x2048.Idx → Elt F .f32}
    (hp : pay A (unsq (gb m v c)) (wraw m c (px v c)) = mmAdd A (gb m v c) (wraw m c (px v c)))
    {off : Fin 2 → ℕ} {h} (ho : off = ![512 * (px v c).val, 0]) {hl1 : rcM.view.LoadsAt (slotR 8 s).toLoadRect} {hl2 : wvM.view.LoadsAt (Rect.unit (s := S4096x2048) off S512x2048.size h).toLoadRect}
    {hl3 hl4 : oM.view.LoadsAt oR.toLoadRect} {hx} {hm} :
    rc m s v c ⊢ iprop(wv m v c -∗ out c A -∗ (rc m s v c -∗ wv m v c -∗ out c (mmAdd A (gb m v c) (wraw m c (px v c))) -∗ WP c (k ⟨⟩) Q)
      -∗ WP c (.op (.load oM oR.toLoadRect hl3) fun a => .op (.load rcM (slotR 8 s).toLoadRect hl1) fun x =>
          .op (.load wvM (Rect.unit (s := S4096x2048) off S512x2048.size h).toLoadRect hl2) fun w => .op (.load oM oR.toLoadRect hl4) fun _ =>
            .op (.store oM oR (pay a x w) Finset.univ hx hm) k) Q) := by
  iintro Hr Hv Ho Hk
  iapply (op_loado c A) $$ Ho
  iintro Ho
  iapply (op_loadrc m c s v) $$ Hr
  iintro Hr
  iapply (op_loadw m c v ho) $$ Hv
  iintro Hv
  iapply (op_loado c A) $$ Ho
  iintro Ho
  iapply (op_storeo c _ A hp) $$ Ho
  iintro Ho
  iapply Hk $$ Hr Hv Ho

/-! ## The parts -/

section Parts
variable (c : Dev nD)
variable {h0 : xA.IsWhole} {h1 : wA.IsWhole} {h2 : oM.IsWhole} {h3 : xlM.IsWhole} {h4 : sgM.IsWhole} {h5 : rcM.IsWhole} {h6 : rlM.IsWhole}
  {h7 : wvM.IsWhole} {h8 : amM.IsWhole}

theorem part14_spec (v2 v4 : BitVec 32) (X : S512x2048.Idx → Elt F .f32) {Q} :
    ctx m lam K ⊢ iprop(full m 11 c -∗ room 11 c -∗ sperm 11 c -∗ sendT 11 c -∗ Ob 13 c -∗ wt (.rcv 5) c -∗ wf m 2 c -∗ out c X
      -∗ (∀ a b, wt (.snd 11) c -∗ Ob 14 c -∗ dn (.rcv 5) c -∗ rc m 2 2 c -∗ anyo (px 2 c) (rowM c) -∗ wv m 2 c -∗ wd m 2 c -∗ out c X -∗ Q ⟨a, X, gb m 2 c, b⟩)
      -∗ WP c (k0_part14 xA h0 wA h1 oM h2 xlM h3 sgM h4 rcM h5 rlM h6 wvM h7 amM h8 cc0_scratch6 cc0_scratch7 cc0_scratch8 cc0_scratch9 cc0_scratch10 cc0_scratch11 cc0_scratch12 c v2 v4) Q) := by
  rw [k0_part14_eq_skeleton]
  unfold k0_part14_skel
  simp only [semSignalWord, semWaitWord, Prog.lift, Prog.bind_op, Prog.bind_ret, Prog.pure_eq_ret, wp_deviceId]
  iintro #Hc Hs Hr Hp Ht Ho Hw Hf Hout Hk
  iapply (op_send m lam K c 11 13 (dev14_eq c) (snd_eq 11) (fr_eq 3) rfl rfl rfl) $$ Hc Hs Hr Hp Ho Ht
  iintro Hs Ho
  iapply (op_final m lam K c 5 2 2 14 (fr_eq 2) rfl rfl rfl (by rfl) rfl) $$ Hc Hw Ho
  iintro Ho Hn Hrc Hrow
  iapply (op_wwait m lam K c 2 14 (wvsl c 2) (wdsl c 2) rfl) $$ Hc Hf Ho
  iintro Hv Hd Ho
  iapply (op_loado c X) $$ Hout
  iintro Hout
  iapply (op_loadrc m c 2 2) $$ Hrc
  iintro Hrc
  iapply (WP_ret c (by rw [pay11_eq, pay12_eq]) _)
  iapply Hk $$ Hs Ho Hn Hrc Hrow Hv Hd Hout

theorem part15_spec (v2 v383 d : BitVec 32) (A X : S512x2048.Idx → Elt F .f32) (B : S512x512.Idx → Elt F .bf16) {Q} :
    ctx m lam K ⊢ iprop(wv m 2 c -∗ out c X -∗ wt (.rcv 7) c -∗ wf m 7 c -∗ Ob 14 c
      -∗ (wv m 2 c -∗ out c (mmAdd A B (wraw m c (px 2 c))) -∗ dn (.rcv 7) c -∗ rc m 7 7 c -∗ anyo (px 7 c) (rowM c) -∗ wv m 7 c -∗ wd m 7 c -∗ Ob 14 c
          -∗ Q (mmAdd (mmAdd A B (wraw m c (px 2 c))) (gb m 7 c) (wraw m c (px 7 c))))
      -∗ WP c (k0_part15 xA h0 wA h1 oM h2 xlM h3 sgM h4 rcM h5 rlM h6 wvM h7 amM h8 cc0_scratch6 cc0_scratch7 cc0_scratch8 cc0_scratch9 cc0_scratch10 cc0_scratch11 cc0_scratch12 c v2 v383 A B d) Q) := by
  rw [k0_part15_eq_skeleton]
  unfold k0_part15_skel
  simp only [semSignalWord, semWaitWord, Prog.lift, Prog.bind_op, Prog.bind_ret, Prog.pure_eq_ret, wp_deviceId]
  iintro #Hc Hv Hout Hw Hf Ho Hk
  iapply (op_loadw m c 2 (off8_eq c 2)) $$ Hv
  iintro Hv
  iapply (op_loado c X) $$ Hout
  iintro Hout
  iapply (op_storeo c _ X (pay13_eq A B _)) $$ Hout
  iintro Hout
  iapply (op_final m lam K c 7 7 7 14 (fr_eq 7) rfl rfl rfl (by rfl) rfl) $$ Hc Hw Ho
  iintro Ho Hn Hrc Hrow
  iapply (op_wwait m lam K c 7 14 (wvsl c 7) (wdsl c 7) rfl) $$ Hc Hf Ho
  iintro Hv7 Hd Ho
  iapply (op_loado c _) $$ Hout
  iintro Hout
  iapply (op_loadrc m c 7 7) $$ Hrc
  iintro Hrc
  iapply (op_loadw m c 7 (off8_eq c 7)) $$ Hv7
  iintro Hv7
  iapply (WP_ret c (pay14_eq _ _ _) _)
  iapply Hk $$ Hv Hout Hn Hrc Hrow Hv7 Hd Ho

theorem part16_spec (v2 v5 : BitVec 32) (A X : S512x2048.Idx → Elt F .f32) {Q} :
    ctx m lam K ⊢ iprop(out c X -∗ wt (.rcv 10) c -∗ room 0 c -∗ sendT 0 c -∗ Ob 14 c
      -∗ (out c A -∗ dn (.rcv 10) c -∗ wt (.snd 0) c -∗ Ob 15 c -∗ Q ⟨⟩)
      -∗ WP c (k0_part16 xA h0 wA h1 oM h2 xlM h3 sgM h4 rcM h5 rlM h6 wvM h7 amM h8 cc0_scratch6 cc0_scratch7 cc0_scratch8 cc0_scratch9 cc0_scratch10 cc0_scratch11 cc0_scratch12 c v2 v5 A) Q) := by
  rw [k0_part16_eq_skeleton]
  unfold k0_part16_skel
  simp only [semSignalWord, semWaitWord, Prog.lift, Prog.bind_op, Prog.bind_ret, Prog.pure_eq_ret, wp_deviceId]
  iintro #Hc Hout Hw Hr Ht Ho Hk
  iapply (op_loado c X) $$ Hout
  iintro Hout
  iapply (op_storeo c A X rfl) $$ Hout
  iintro Hout
  iapply (op_relay m lam K c 10 0 14 (rr_eq 4) rfl rfl rfl (by rfl) rfl) $$ Hc Hw Ho
  iintro Ho Hn Hs Hp
  iapply (op_send m lam K c 0 14 (dev15_eq c) (snd_eq 0) (fr_eq 6) rfl rfl rfl) $$ Hc Hs Hr Hp Ho Ht
  iintro Hw Ho
  iapply (WP_ret c rfl _)
  iapply Hk $$ Hout Hn Hw Ho

theorem part17_spec (v2 : BitVec 32) (A : S512x2048.Idx → Elt F .f32) {Q} :
    ctx m lam K ⊢ iprop(wt (.rcv 6) c -∗ wf m 5 c -∗ out c A -∗ wt (.rcv 9) c -∗ Ob 15 c
      -∗ (∀ a, dn (.rcv 6) c -∗ rc m 5 5 c -∗ anyo (px 5 c) (rowM c) -∗ wv m 5 c -∗ wd m 5 c -∗ out c (mmAdd A (gb m 5 c) (wraw m c (px 5 c)))
          -∗ dn (.rcv 9) c -∗ rc m 4 4 c -∗ anyo (px 4 c) (rowM c) -∗ Ob 15 c -∗ Q a)
      -∗ WP c (k0_part17 xA h0 wA h1 oM h2 xlM h3 sgM h4 rcM h5 rlM h6 wvM h7 amM h8 cc0_scratch6 cc0_scratch7 cc0_scratch8 cc0_scratch9 cc0_scratch10 cc0_scratch11 cc0_scratch12 c v2) Q) := by
  rw [k0_part17_eq_skeleton]
  unfold k0_part17_skel
  simp only [semSignalWord, semWaitWord, Prog.lift, Prog.bind_op, Prog.bind_ret, Prog.pure_eq_ret, wp_deviceId]
  iintro #Hc Hw Hf Hout Hw9 Ho Hk
  iapply (op_final m lam K c 6 5 5 15 (fr_eq 5) rfl rfl rfl (by rfl) rfl) $$ Hc Hw Ho
  iintro Ho Hn Hrc Hrow
  iapply (op_wwait m lam K c 5 15 (wvsl c 5) (wdsl c 5) rfl) $$ Hc Hf Ho
  iintro Hv Hd Ho
  iapply (op_acc m c 5 5 A (pay := k0_pay15) (pay14_eq _ _ _) (off8_eq c 5)) $$ Hrc Hv Hout
  iintro Hrc Hv Hout
  iapply (op_final m lam K c 9 4 4 15 (fr_eq 4) rfl rfl rfl (by rfl) rfl) $$ Hc Hw9 Ho
  iintro Ho Hn9 Hrc9 Hrow9
  iapply (WP_ret c rfl _)
  iapply Hk $$ Hn Hrc Hrow Hv Hd Hout Hn9 Hrc9 Hrow9 Ho

theorem part18_spec (v2 v476 : BitVec 32) (A : S512x2048.Idx → Elt F .f32) {Q} :
    ctx m lam K ⊢ iprop(wf m 4 c -∗ rc m 4 4 c -∗ out c A -∗ wt (.rcv 8) c -∗ Ob 15 c
      -∗ (∀ a, rc m 4 4 c -∗ wv m 4 c -∗ wd m 4 c -∗ out c (mmAdd A (gb m 4 c) (wraw m c (px 4 c)))
          -∗ dn (.rcv 8) c -∗ rc m 1 1 c -∗ anyo (px 1 c) (rowM c) -∗ Ob 15 c -∗ Q a)
      -∗ WP c (k0_part18 xA h0 wA h1 oM h2 xlM h3 sgM h4 rcM h5 rlM h6 wvM h7 amM h8 cc0_scratch6 cc0_scratch7 cc0_scratch8 cc0_scratch9 cc0_scratch10 cc0_scratch11 cc0_scratch12 c v2 v476) Q) := by
  rw [k0_part18_eq_skeleton]
  unfold k0_part18_skel
  simp only [semSignalWord, semWaitWord, Prog.lift, Prog.bind_op, Prog.bind_ret, Prog.pure_eq_ret, wp_deviceId]
  iintro #Hc Hf Hrc Hout Hw Ho Hk
  iapply (op_wwait m lam K c 4 15 (wvsl c 4) (wdsl c 4) rfl) $$ Hc Hf Ho
  iintro Hv Hd Ho
  iapply (op_acc m c 4 4 A (pay := k0_pay16) (pay14_eq _ _ _) (off8_eq c 4)) $$ Hrc Hv Hout
  iintro Hrc Hv Hout
  iapply (op_final m lam K c 8 1 1 15 (fr_eq 1) rfl rfl rfl (by rfl) rfl) $$ Hc Hw Ho
  iintro Ho Hn Hrc1 Hrow
  iapply (WP_ret c rfl _)
  iapply Hk $$ Hrc Hv Hd Hout Hn Hrc1 Hrow Ho

theorem part19_spec (v2 v501 : BitVec 32) (A : S512x2048.Idx → Elt F .f32) {Q} :
    ctx m lam K ⊢ iprop(wf m 1 c -∗ rc m 1 1 c -∗ out c A -∗ wt (.rcv 11) c -∗ Ob 15 c -∗ wf m 3 c
      -∗ (∀ a, rc m 1 1 c -∗ wv m 1 c -∗ wd m 1 c -∗ out c (mmAdd A (gb m 1 c) (wraw m c (px 1 c)))
          -∗ dn (.rcv 11) c -∗ rc m 3 3 c -∗ anyo (px 3 c) (rowM c) -∗ wv m 3 c -∗ wd m 3 c -∗ Ob 15 c
          -∗ Q ⟨a, mmAdd A (gb m 1 c) (wraw m c (px 1 c))⟩)
      -∗ WP c (k0_part19 xA h0 wA h1 oM h2 xlM h3 sgM h4 rcM h5 rlM h6 wvM h7 amM h8 cc0_scratch6 cc0_scratch7 cc0_scratch8 cc0_scratch9 cc0_scratch10 cc0_scratch11 cc0_scratch12 c v2 v501) Q) := by
  rw [k0_part19_eq_skeleton]
  unfold k0_part19_skel
  simp only [semSignalWord, semWaitWord, Prog.lift, Prog.bind_op, Prog.bind_ret, Prog.pure_eq_ret, wp_deviceId]
  iintro #Hc Hf Hrc Hout Hw Ho Hf3 Hk
  iapply (op_wwait m lam K c 1 15 (wvsl c 1) (wdsl c 1) rfl) $$ Hc Hf Ho
  iintro Hv Hd Ho
  iapply (op_acc m c 1 1 A (pay := k0_pay17) (pay14_eq _ _ _) (off8_eq c 1)) $$ Hrc Hv Hout
  iintro Hrc Hv Hout
  iapply (op_final m lam K c 11 3 3 15 (fr_eq 3) rfl rfl rfl (by rfl) rfl) $$ Hc Hw Ho
  iintro Ho Hn Hrc3 Hrow
  iapply (op_wwait m lam K c 3 15 (wvsl c 3) (wdsl c 3) rfl) $$ Hc Hf3 Ho
  iintro Hv3 Hd3 Ho
  iapply (op_loado c _) $$ Hout
  iintro Hout
  iapply (WP_ret c (by rw [show ∀ A, k0_pay18 (F := F) A = A from fun A => pay11_eq A]) _)
  iapply Hk $$ Hrc Hv Hd Hout Hn Hrc3 Hrow Hv3 Hd3 Ho

theorem part20_spec (v2 v526 : BitVec 32) (A X : S512x2048.Idx → Elt F .f32) {Q} :
    ctx m lam K ⊢ iprop(rc m 3 3 c -∗ wv m 3 c -∗ out c X -∗ wt (.rcv 0) c -∗ Ob 15 c -∗ wf m 6 c
      -∗ (rc m 3 3 c -∗ wv m 3 c -∗ out c (mmAdd A (gb m 3 c) (wraw m c (px 3 c)))
          -∗ dn (.rcv 0) c -∗ rc m 6 6 c -∗ anyo (px 6 c) (rowM c) -∗ wv m 6 c -∗ wd m 6 c -∗ Ob 15 c
          -∗ Q ⟨mmAdd A (gb m 3 c) (wraw m c (px 3 c)), gb m 6 c⟩)
      -∗ WP c (k0_part20 xA h0 wA h1 oM h2 xlM h3 sgM h4 rcM h5 rlM h6 wvM h7 amM h8 cc0_scratch6 cc0_scratch7 cc0_scratch8 cc0_scratch9 cc0_scratch10 cc0_scratch11 cc0_scratch12 c v2 v526 A) Q) := by
  rw [k0_part20_eq_skeleton]
  unfold k0_part20_skel
  simp only [semSignalWord, semWaitWord, Prog.lift, Prog.bind_op, Prog.bind_ret, Prog.pure_eq_ret, wp_deviceId]
  iintro #Hc Hrc Hv Hout Hw Ho Hf Hk
  iapply (op_loadrc m c 3 3) $$ Hrc
  iintro Hrc
  iapply (op_loadw m c 3 (off8_eq c 3)) $$ Hv
  iintro Hv
  iapply (op_loado c X) $$ Hout
  iintro Hout
  iapply (op_storeo c _ X (pay19_eq A _ _)) $$ Hout
  iintro Hout
  iapply (op_final m lam K c 0 6 6 15 (fr_eq 6) rfl rfl rfl (by rfl) rfl) $$ Hc Hw Ho
  iintro Ho Hn Hrc6 Hrow
  iapply (op_wwait m lam K c 6 15 (wvsl c 6) (wdsl c 6) rfl) $$ Hc Hf Ho
  iintro Hv6 Hd6 Ho
  iapply (op_loado c _) $$ Hout
  iintro Hout
  iapply (op_loadrc m c 6 6) $$ Hrc6
  iintro Hrc6
  iapply (WP_ret c (by rw [show ∀ A, k0_pay20 (F := F) A = A from fun A => pay11_eq A, show ∀ X, k0_pay21 (F := F) (unsq (e := .bf16) X) = X from fun X => pay12_eq X]) _)
  iapply Hk $$ Hrc Hv Hout Hn Hrc6 Hrow Hv6 Hd6 Ho

theorem part21_spec (A X : S512x2048.Idx → Elt F .f32) (B : S512x512.Idx → Elt F .bf16) {Q} :
    ctx m lam K ⊢ iprop(wv m 6 c -∗ out c X -∗ wt (.snd 1) c -∗ wt (.snd 2) c -∗ wt (.snd 3) c -∗ Ob 15 c
      -∗ (wv m 6 c -∗ out c (mmAdd A B (wraw m c (px 6 c))) -∗ Ob 15 c -∗ dn (.snd 1) c -∗ anyo c (srcM 1) -∗ dn (.snd 2) c -∗ anyo c (srcM 2)
          -∗ dn (.snd 3) c -∗ anyo c (srcM 3) -∗ Q ⟨⟩)
      -∗ WP c (k0_part21 xA h0 wA h1 oM h2 xlM h3 sgM h4 rcM h5 rlM h6 wvM h7 amM h8 cc0_scratch6 cc0_scratch7 cc0_scratch8 cc0_scratch9 cc0_scratch10 cc0_scratch11 cc0_scratch12 c A B) Q) := by
  rw [k0_part21_eq_skeleton]
  unfold k0_part21_skel
  simp only [semSignalWord, semWaitWord, Prog.lift, Prog.bind_op, Prog.bind_ret, Prog.pure_eq_ret, wp_deviceId]
  iintro #Hc Hv Hout Hw1 Hw2 Hw3 Ho Hk
  iapply (op_loadw m c 6 (off8_eq c 6)) $$ Hv
  iintro Hv
  iapply (op_loado c X) $$ Hout
  iintro Hout
  iapply (op_storeo c _ X (pay13_eq A B _)) $$ Hout
  iintro Hout
  iapply (op_sent m lam K c 1 (snd_eq 1) (by rfl)) $$ Hc Hw1 Ho
  iintro Ho Hn1 Hs1
  iapply (op_sent m lam K c 2 (snd_eq 2) (by rfl)) $$ Hc Hw2 Ho
  iintro Ho Hn2 Hs2
  iapply (op_sent m lam K c 3 (snd_eq 3) (by rfl)) $$ Hc Hw3 Ho
  iintro Ho Hn3 Hs3
  iapply (WP_ret c rfl _)
  iapply Hk $$ Hv Hout Ho Hn1 Hs1 Hn2 Hs2 Hn3 Hs3

theorem part22_spec {Q} :
    ctx m lam K ⊢ iprop(wt (.snd 4) c -∗ wt (.snd 5) c -∗ wt (.snd 6) c -∗ Ob 15 c
      -∗ (Ob 15 c -∗ dn (.snd 4) c -∗ anyo c (srcM 4) -∗ dn (.snd 5) c -∗ anyo c (srcM 5) -∗ dn (.snd 6) c -∗ anyo c (srcM 6) -∗ Q ⟨⟩)
      -∗ WP c (k0_part22 xA h0 wA h1 oM h2 xlM h3 sgM h4 rcM h5 rlM h6 wvM h7 amM h8 cc0_scratch6 cc0_scratch7 cc0_scratch8 cc0_scratch9 cc0_scratch10 cc0_scratch11 cc0_scratch12) Q) := by
  rw [k0_part22_eq_skeleton]
  unfold k0_part22_skel
  simp only [semSignalWord, semWaitWord, Prog.lift, Prog.bind_op, Prog.bind_ret, Prog.pure_eq_ret, wp_deviceId]
  iintro #Hc Hw4 Hw5 Hw6 Ho Hk
  iapply (op_sent m lam K c 4 (snd_eq 4) (by rfl)) $$ Hc Hw4 Ho
  iintro Ho Hn4 Hs4
  iapply (op_sent m lam K c 5 (snd_eq 5) (by rfl)) $$ Hc Hw5 Ho
  iintro Ho Hn5 Hs5
  iapply (op_sent m lam K c 6 (snd_eq 6) (by rfl)) $$ Hc Hw6 Ho
  iintro Ho Hn6 Hs6
  iapply (WP_ret c rfl _)
  iapply Hk $$ Ho Hn4 Hs4 Hn5 Hs5 Hn6 Hs6

theorem part23_spec {Q} :
    ctx m lam K ⊢ iprop(wt (.snd 7) c -∗ wt (.snd 8) c -∗ wt (.snd 9) c -∗ wt (.snd 10) c -∗ Ob 15 c
      -∗ (Ob 15 c -∗ dn (.snd 7) c -∗ anyo c (srcM 7) -∗ dn (.snd 8) c -∗ anyo c (srcM 8) -∗ dn (.snd 9) c -∗ anyo c (srcM 9) -∗ dn (.snd 10) c -∗ anyo c (srcM 10) -∗ Q ⟨⟩)
      -∗ WP c (k0_part23 xA h0 wA h1 oM h2 xlM h3 sgM h4 rcM h5 rlM h6 wvM h7 amM h8 cc0_scratch6 cc0_scratch7 cc0_scratch8 cc0_scratch9 cc0_scratch10 cc0_scratch11 cc0_scratch12) Q) := by
  rw [k0_part23_eq_skeleton]
  unfold k0_part23_skel
  simp only [semSignalWord, semWaitWord, Prog.lift, Prog.bind_op, Prog.bind_ret, Prog.pure_eq_ret, wp_deviceId]
  iintro #Hc Hw7 Hw8 Hw9 Hw10 Ho Hk
  iapply (op_sent m lam K c 7 (snd_eq 7) (by rfl)) $$ Hc Hw7 Ho
  iintro Ho Hn7 Hs7
  iapply (op_sent m lam K c 8 (snd_eq 8) (by rfl)) $$ Hc Hw8 Ho
  iintro Ho Hn8 Hs8
  iapply (op_sent m lam K c 9 (snd_eq 9) (by rfl)) $$ Hc Hw9 Ho
  iintro Ho Hn9 Hs9
  iapply (op_sent m lam K c 10 (snd_eq 10) (by rfl)) $$ Hc Hw10 Ho
  iintro Ho Hn10 Hs10
  iapply (WP_ret c rfl _)
  iapply Hk $$ Ho Hn7 Hs7 Hn8 Hs8 Hn9 Hs9 Hn10 Hs10

theorem part24_spec (v2 : BitVec 32) (X : S512x2048.Idx → Elt F .f32)
    (hlam : shapeCast S128 (k0_pay23 (F := F) X) (show S1x128.ShapeCasts S128 by decide) = lam c) {Q} :
    ctx m lam K ⊢ iprop(wt (.snd 11) c -∗ wt (.snd 0) c -∗ Ob 15 c -∗ out c X -∗ anyo c (rowM c) -∗ amRoom 0 c -∗ amT 0 c
      -∗ (∀ a, dn (.snd 11) c -∗ anyo c (srcM 11) -∗ dn (.snd 0) c -∗ anyo c (srcM 0) -∗ out c X -∗ wt (.asd 0) c -∗ amRest lam 1 c -∗ Ob 16 c -∗ Q a)
      -∗ WP c (k0_part24 xA h0 wA h1 oM h2 xlM h3 sgM h4 rcM h5 rlM h6 wvM h7 amM h8 cc0_scratch6 cc0_scratch7 cc0_scratch8 cc0_scratch9 cc0_scratch10 cc0_scratch11 cc0_scratch12 c v2) Q) := by
  rw [k0_part24_eq_skeleton]
  unfold k0_part24_skel
  simp only [semSignalWord, semWaitWord, Prog.lift, Prog.bind_op, Prog.bind_ret, Prog.pure_eq_ret, wp_deviceId]
  iintro #Hc Hw11 Hw0 Ho Hout Hrow Hroom Ht Hk
  iapply (op_sent m lam K c 11 (snd_eq 11) (by rfl)) $$ Hc Hw11 Ho
  iintro Ho Hn11 Hs11
  iapply (op_sent m lam K c 0 (snd_eq 0) (by rfl)) $$ Hc Hw0 Ho
  iintro Ho Hn0 Hs0
  iapply (op_loado c X) $$ Hout
  iintro Hout
  unfold anyo
  icases Hrow with ⟨%Y, Hrow⟩
  iapply (step_loadrow c c (off9_eq c) Y) $$ Hrow
  iintro %_ Hrow
  iapply (step_storerow c c (off9_eq c) Y) $$ Hrow
  iintro Hrow
  ihave Hrow := (show _ ⊢ amRest lam 0 c from hlam ▸ Entails.refl) $$ Hrow
  iapply (op_amsend m lam K c 0 0 15 rfl (dev16_eq c) (as_eq 1) (rowsl c) (rowsl c) (arsl c) rfl) $$ Hc Hrow Hroom Ho Ht
  iintro Hw Hrow Ho
  iapply (WP_ret c rfl _)
  iapply Hk $$ Hn11 Hs11 Hn0 Hs0 Hout Hw Hrow Ho

theorem part25_spec (v2 v664 : BitVec 32) {Q} :
    ctx m lam K ⊢ iprop(amRest lam 1 c -∗ amRoom 1 c -∗ amT 1 c -∗ amRoom 2 c -∗ amT 2 c -∗ amRoom 3 c -∗ amT 3 c -∗ Ob 16 c
      -∗ (∀ a, wt (.asd 1) c -∗ wt (.asd 2) c -∗ wt (.asd 3) c -∗ amRest lam 4 c -∗ Ob 19 c -∗ Q a)
      -∗ WP c (k0_part25 xA h0 wA h1 oM h2 xlM h3 sgM h4 rcM h5 rlM h6 wvM h7 amM h8 cc0_scratch6 cc0_scratch7 cc0_scratch8 cc0_scratch9 cc0_scratch10 cc0_scratch11 cc0_scratch12 c v2 v664) Q) := by
  rw [k0_part25_eq_skeleton]
  unfold k0_part25_skel
  simp only [semSignalWord, semWaitWord, Prog.lift, Prog.bind_op, Prog.bind_ret, Prog.pure_eq_ret, wp_deviceId]
  iintro #Hc Hr Hm1 Ht1 Hm2 Ht2 Hm3 Ht3 Ho Hk
  iapply (op_amsend m lam K c 1 1 16 rfl (dev17_eq c) (as_eq 2) (rowsl c) (rowsl c) (arsl c) rfl) $$ Hc Hr Hm1 Ho Ht1
  iintro Hw1 Hr Ho
  iapply (op_amsend m lam K c 2 2 17 rfl (dev18_eq c) (as_eq 3) (rowsl c) (rowsl c) (arsl c) rfl) $$ Hc Hr Hm2 Ho Ht2
  iintro Hw2 Hr Ho
  iapply (op_amsend m lam K c 3 3 18 rfl (dev19_eq c) (as_eq 4) (rowsl c) (rowsl c) (arsl c) rfl) $$ Hc Hr Hm3 Ho Ht3
  iintro Hw3 Hr Ho
  iapply (WP_ret c rfl _)
  iapply Hk $$ Hw1 Hw2 Hw3 Hr Ho

theorem part26_spec (v2 v700 : BitVec 32) {Q} :
    ctx m lam K ⊢ iprop(amRest lam 4 c -∗ amRoom 4 c -∗ amT 4 c -∗ amRoom 5 c -∗ amT 5 c -∗ amRoom 6 c -∗ amT 6 c -∗ Ob 19 c
      -∗ (∀ a, wt (.asd 4) c -∗ wt (.asd 5) c -∗ wt (.asd 6) c -∗ amRest lam 7 c -∗ Ob 22 c -∗ Q a)
      -∗ WP c (k0_part26 xA h0 wA h1 oM h2 xlM h3 sgM h4 rcM h5 rlM h6 wvM h7 amM h8 cc0_scratch6 cc0_scratch7 cc0_scratch8 cc0_scratch9 cc0_scratch10 cc0_scratch11 cc0_scratch12 c v2 v700) Q) := by
  rw [k0_part26_eq_skeleton]
  unfold k0_part26_skel
  simp only [semSignalWord, semWaitWord, Prog.lift, Prog.bind_op, Prog.bind_ret, Prog.pure_eq_ret, wp_deviceId]
  iintro #Hc Hr Hm4 Ht4 Hm5 Ht5 Hm6 Ht6 Ho Hk
  iapply (op_amsend m lam K c 4 4 19 rfl (dev20_eq c) (as_eq 5) (rowsl c) (rowsl c) (arsl c) rfl) $$ Hc Hr Hm4 Ho Ht4
  iintro Hw4 Hr Ho
  iapply (op_amsend m lam K c 5 5 20 rfl (dev21_eq c) (as_eq 6) (rowsl c) (rowsl c) (arsl c) rfl) $$ Hc Hr Hm5 Ho Ht5
  iintro Hw5 Hr Ho
  iapply (op_amsend m lam K c 6 6 21 rfl (dev22_eq c) (as_eq 7) (rowsl c) (rowsl c) (arsl c) rfl) $$ Hc Hr Hm6 Ho Ht6
  iintro Hw6 Hr Ho
  iapply (WP_ret c rfl _)
  iapply Hk $$ Hw4 Hw5 Hw6 Hr Ho

theorem part27_spec (v2 v736 : BitVec 32) {Q} :
    ctx m lam K ⊢ iprop(wt (.arv (rot 1 c)) c -∗ wt (.arv (rot 2 c)) c -∗ wt (.arv (rot 3 c)) c -∗ Ob 22 c
      -∗ (∀ a b, Ob 22 c -∗ dn (.arv (rot 1 c)) c -∗ amGot lam 1 c -∗ dn (.arv (rot 2 c)) c -∗ amGot lam 2 c -∗ dn (.arv (rot 3 c)) c -∗ amGot lam 3 c -∗ Q ⟨a, b⟩)
      -∗ WP c (k0_part27 xA h0 wA h1 oM h2 xlM h3 sgM h4 rcM h5 rlM h6 wvM h7 amM h8 cc0_scratch6 cc0_scratch7 cc0_scratch8 cc0_scratch9 cc0_scratch10 cc0_scratch11 cc0_scratch12 c v2 v736) Q) := by
  rw [k0_part27_eq_skeleton]
  unfold k0_part27_skel
  simp only [semSignalWord, semWaitWord, Prog.lift, Prog.bind_op, Prog.bind_ret, Prog.pure_eq_ret, wp_deviceId]
  iintro #Hc Hw1 Hw2 Hw3 Ho Hk
  iapply (op_amwait m lam K c 1 (rot_ne c 1 (by decide)) (arsld c 1) (by rfl)) $$ Hc Hw1 Ho
  iintro Ho Hn1 Hg1
  iapply (op_amwait m lam K c 2 (rot_ne c 2 (by decide)) (arsld c 2) (by rfl)) $$ Hc Hw2 Ho
  iintro Ho Hn2 Hg2
  iapply (op_amwait m lam K c 3 (rot_ne c 3 (by decide)) (arsld c 3) (by rfl)) $$ Hc Hw3 Ho
  iintro Ho Hn3 Hg3
  iapply (WP_ret c rfl _)
  iapply Hk $$ Ho Hn1 Hg1 Hn2 Hg2 Hn3 Hg3

theorem part28_spec (v2 v768 v0 : BitVec 32) {Q} :
    ctx m lam K ⊢ iprop(wt (.arv (rot 4 c)) c -∗ wt (.arv (rot 5 c)) c -∗ wt (.arv (rot 6 c)) c -∗ Ob 22 c
      -∗ (Ob 22 c -∗ dn (.arv (rot 4 c)) c -∗ amGot lam 4 c -∗ dn (.arv (rot 5 c)) c -∗ amGot lam 5 c -∗ dn (.arv (rot 6 c)) c -∗ amGot lam 6 c -∗ Q ⟨⟩)
      -∗ WP c (k0_part28 xA h0 wA h1 oM h2 xlM h3 sgM h4 rcM h5 rlM h6 wvM h7 amM h8 cc0_scratch6 cc0_scratch7 cc0_scratch8 cc0_scratch9 cc0_scratch10 cc0_scratch11 cc0_scratch12 c v2 v768 v0) Q) := by
  rw [k0_part28_eq_skeleton]
  unfold k0_part28_skel
  simp only [semSignalWord, semWaitWord, Prog.lift, Prog.bind_op, Prog.bind_ret, Prog.pure_eq_ret, wp_deviceId]
  iintro #Hc Hw4 Hw5 Hw6 Ho Hk
  iapply (op_amwait m lam K c 4 (rot_ne c 4 (by decide)) (arsld c 4) (by rfl)) $$ Hc Hw4 Ho
  iintro Ho Hn4 Hg4
  iapply (op_amwait m lam K c 5 (rot_ne c 5 (by decide)) (arsld c 5) (by rfl)) $$ Hc Hw5 Ho
  iintro Ho Hn5 Hg5
  iapply (op_amwait m lam K c 6 (rot_ne c 6 (by decide)) (arsld c 6) (by rfl)) $$ Hc Hw6 Ho
  iintro Ho Hn6 Hg6
  iapply (WP_ret c rfl _)
  iapply Hk $$ Ho Hn4 Hg4 Hn5 Hg5 Hn6 Hg6

theorem part29_spec {Q} :
    ctx m lam K ⊢ iprop(wt (.arv (rot 7 c)) c -∗ wt (.asd 0) c -∗ wt (.asd 1) c -∗ wt (.asd 2) c -∗ wt (.asd 3) c -∗ wt (.asd 4) c -∗ Ob 22 c
      -∗ (Ob 22 c -∗ dn (.arv (rot 7 c)) c -∗ amGot lam 7 c -∗ dn (.asd 0) c -∗ amSh lam 0 c -∗ dn (.asd 1) c -∗ amSh lam 1 c -∗ dn (.asd 2) c -∗ amSh lam 2 c -∗ dn (.asd 3) c -∗ amSh lam 3 c -∗ dn (.asd 4) c -∗ amSh lam 4 c -∗ Q ⟨⟩)
      -∗ WP c (k0_part29 xA h0 wA h1 oM h2 xlM h3 sgM h4 rcM h5 rlM h6 wvM h7 amM h8 cc0_scratch6 cc0_scratch7 cc0_scratch8 cc0_scratch9 cc0_scratch10 cc0_scratch11 cc0_scratch12 c) Q) := by
  rw [k0_part29_eq_skeleton]
  unfold k0_part29_skel
  simp only [semSignalWord, semWaitWord, Prog.lift, Prog.bind_op, Prog.bind_ret, Prog.pure_eq_ret, wp_deviceId]
  iintro #Hc Hw7 Hs0 Hs1 Hs2 Hs3 Hs4 Ho Hk
  iapply (op_amwait m lam K c 7 (rot_ne c 7 (by decide)) (arsld c 7) (by rfl)) $$ Hc Hw7 Ho
  iintro Ho Hm7 Hg7
  iapply (op_amsent m lam K c 0 0 rfl (as_eq 1) (by rfl)) $$ Hc Hs0 Ho
  iintro Ho Hn0 Hh0
  iapply (op_amsent m lam K c 1 1 rfl (as_eq 2) (by rfl)) $$ Hc Hs1 Ho
  iintro Ho Hn1 Hh1
  iapply (op_amsent m lam K c 2 2 rfl (as_eq 3) (by rfl)) $$ Hc Hs2 Ho
  iintro Ho Hn2 Hh2
  iapply (op_amsent m lam K c 3 3 rfl (as_eq 4) (by rfl)) $$ Hc Hs3 Ho
  iintro Ho Hn3 Hh3
  iapply (op_amsent m lam K c 4 4 rfl (as_eq 5) (by rfl)) $$ Hc Hs4 Ho
  iintro Ho Hn4 Hh4
  iapply (WP_ret c rfl _)
  iapply Hk $$ Ho Hm7 Hg7 Hn0 Hh0 Hn1 Hh1 Hn2 Hh2 Hn3 Hh3 Hn4 Hh4

end Parts

end Cert.KernelIdeal.Pf

end
-- ==== Proof.KernelIdeal.Regions.lean ====
/-
Regions cut into the blocks the kernel moves, and put together again.
-/
module

public import proofs.«01_k».proof.Proof.KernelIdeal.Ops

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (lam : Dev nD → S128.Idx → Elt F .f32)

/-! ## Conjunctions over a few indices, spelled out -/

section Fins
variable {R : Type} [URA R]
theorem bigSep_f3 (Φ : Fin 3 → sProp R) : bigSep Finset.univ Φ = iprop(Φ 0 ∗ Φ 1 ∗ Φ 2) := bigSep_univ_eq_bigSepL [0, 1, 2] (by decide) (by decide) Φ
theorem bigSep_f4 (Φ : Fin 4 → sProp R) : bigSep Finset.univ Φ = iprop(Φ 0 ∗ Φ 1 ∗ Φ 2 ∗ Φ 3) := bigSep_univ_eq_bigSepL [0, 1, 2, 3] (by decide) (by decide) Φ
theorem bigSep_f5 (Φ : Fin 5 → sProp R) : bigSep Finset.univ Φ = iprop(Φ 0 ∗ Φ 1 ∗ Φ 2 ∗ Φ 3 ∗ Φ 4) :=
  bigSep_univ_eq_bigSepL [0, 1, 2, 3, 4] (by decide) (by decide) Φ
theorem bigSep_f7 (Φ : Fin 7 → sProp R) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem bigSep_f8 (Φ : Fin 8 → sProp R) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem bigSep_f12 (Φ : Fin 12 → sProp R) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [0, 1, 2, 3, 4, 5, 6, 7, 8, 9, 10, 11] (by decide) (by decide) Φ

theorem rot_zero (c : Dev nD) : rot 0 c = c := by revert c; decide +kernel

/-- All devices, as seen from `c` by bits, -/
theorem bigSep_px (c : Dev nD) (Φ : Dev nD → sProp R) : bigSep Finset.univ Φ
    = iprop(Φ c ∗ Φ (px 1 c) ∗ Φ (px 2 c) ∗ Φ (px 3 c) ∗ Φ (px 4 c) ∗ Φ (px 5 c) ∗ Φ (px 6 c) ∗ Φ (px 7 c)) := by
  rw [bigSep_univ_equiv (vE c), bigSep_f8, show vE c 0 = c from px_zero c]; rfl
/-- and around the ring. -/
theorem bigSep_rot (c : Dev nD) (Φ : Dev nD → sProp R) : bigSep Finset.univ Φ
    = iprop(Φ c ∗ Φ (rot 1 c) ∗ Φ (rot 2 c) ∗ Φ (rot 3 c) ∗ Φ (rot 4 c) ∗ Φ (rot 5 c) ∗ Φ (rot 6 c) ∗ Φ (rot 7 c)) := by
  rw [bigSep_univ_equiv (rE c), bigSep_f8, show rE c 0 = c from rot_zero c]; rfl
end Fins

/-! ## Regions cut into blocks and put together -/

section Cut
variable (c : Dev nD)

theorem anyo_sat {sp : Space} {s : Shape} {e : EltTy} (r : Memref sig .tc sp s e) :
    (anyo c r : sProp 𝕄) ⊣⊢ ownsSat (c : Thread nD τ) r fullShare (fun _ => True) :=
  ⟨(ownsSat_true (c : Thread nD τ) r fullShare).2, (ownsSat_true (c : Thread nD τ) r fullShare).1⟩

theorem any_split {sp : Space} {s : Shape} {e : EltTy} (M : Memref sig .tc sp s e) {T : Type} [Fintype T] [DecidableEq T] (r : T → Rect s) (hr : ∀ t a, (r t).stride a = 1)
    (hd : ∀ t t', t ≠ t' → Disjoint (r t).set (r t').set) (hcov : (Finset.univ : Finset T).biUnion (fun t => (r t).set) = Finset.univ) :
    (anyo c M : sProp 𝕄) ⊣⊢ bigSep Finset.univ fun t => anyo c (M.slice (r t) (hr t)) := by
  constructor
  · unfold anyo
    iintro ⟨%X, H⟩
    iapply ((owns_rects (c : Thread nD τ) M fullShare r hr hd hcov X).trans (bigSep_mono fun t _ =>
      (show owns (c : Thread nD τ) (M.slice (r t) (hr t)) fullShare (fun j => X ((r t).emb j)) ⊢ iprop(∃ X, owns (c : Thread nD τ) (M.slice (r t) (hr t)) fullShare X) from by
        iintro H; iexists _; iexact H))) $$ H
  · refine (bigSep_mono fun t _ => (anyo_sat c (M.slice (r t) (hr t))).1).trans ?_
    refine (ownsSat_of_rects (c : Thread nD τ) M fullShare r hr hd hcov (fun _ _ => True)).trans ?_
    exact (ownsSat_mono (c : Thread nD τ) M fullShare fun _ _ => trivial).trans (anyo_sat c M).2

/-- A slice with its leading axis of length one dropped is owned as the slice is. -/
theorem any_slot {n : ℕ} {e : EltTy} (M : Memref sig .tc .vmem (Sn n) e) (j : Fin n) :
    (anyo c (M.slice (slotR n j) (fun _ => rfl)) : sProp 𝕄) ⊣⊢ anyo c (slotM M j) := by
  unfold anyo owns
  constructor
  · iintro ⟨%X, %f, -, H⟩
    iexists ((slotM M j).view.read (Elt F) f)
    iexists f
    isplitr
    · ipureintro; rfl
    · rw [View.set_reshape]; iexact H
  · iintro ⟨%X, %f, -, H⟩
    iexists ((M.slice (slotR n j) (fun _ => rfl)).view.read (Elt F) f)
    iexists f
    isplitr
    · ipureintro; rfl
    · rw [View.set_reshape]; iexact H

theorem slots {n : ℕ} {e : EltTy} (M : Memref sig .tc .vmem (Sn n) e) :
    (anyo c M : sProp 𝕄) ⊣⊢ bigSep Finset.univ fun j : Fin n => anyo c (slotM M j) :=
  ⟨(any_split c M (slotR n) (fun _ _ => rfl) (slot_disj n) (slot_cov n)).1.trans (bigSep_mono fun j _ => (any_slot c M j).1),
    (bigSep_mono fun j _ => (any_slot c M j).2).trans (any_split c M (slotR n) (fun _ _ => rfl) (slot_disj n) (slot_cov n)).2⟩

theorem wv_cut : (anyo c wvM : sProp 𝕄) ⊣⊢ bigSep Finset.univ fun v : Fin 8 => anyo c (wvblk (px v.val c)) := by
  have h := any_split (F := F) c wvM wR (fun _ _ => rfl) wR_disj wR_cov
  rw [bigSep_univ_equiv (vE c)] at h
  exact h

theorem x_cut : (owns (c : Thread nD τ) xA fullShare (m ((c : Thread nD τ).loc main_arg0)) : sProp 𝕄) ⊣⊢ bigSep Finset.univ fun v : Fin 8 => xh m v.val c := by
  have h1 := owns_rects (Ix := Unit) (Name := ℕ) (U := UU) (Lvl := ℕ) (c : Thread nD τ) xA fullShare xR (fun _ _ => rfl) xR_disj xR_cov (m ((c : Thread nD τ).loc main_arg0))
  have h2 := owns_of_rects (Ix := Unit) (Name := ℕ) (U := UU) (Lvl := ℕ) (c : Thread nD τ) xA fullShare xR (fun _ _ => rfl) xR_disj xR_cov (m ((c : Thread nD τ).loc main_arg0))
  rw [bigSep_univ_equiv (vE c)] at h1 h2
  exact ⟨h1, h2⟩
theorem w_cut : (owns (c : Thread nD τ) wA fullShare (m ((c : Thread nD τ).loc main_arg1)) : sProp 𝕄) ⊣⊢ bigSep Finset.univ fun v : Fin 8 => wh m v.val c := by
  have h1 := owns_rects (Ix := Unit) (Name := ℕ) (U := UU) (Lvl := ℕ) (c : Thread nD τ) wA fullShare wR (fun _ _ => rfl) wR_disj wR_cov (m ((c : Thread nD τ).loc main_arg1))
  have h2 := owns_of_rects (Ix := Unit) (Name := ℕ) (U := UU) (Lvl := ℕ) (c : Thread nD τ) wA fullShare wR (fun _ _ => rfl) wR_disj wR_cov (m ((c : Thread nD τ).loc main_arg1))
  rw [bigSep_univ_equiv (vE c)] at h1 h2
  exact ⟨h1, h2⟩

/-! ## The rows of the maxima -/

/-- A row of 128 as a matrix of one row. -/
def unrow (X : S128.Idx → Elt F .f32) : S1x128.Idx → Elt F .f32 := shapeCast S1x128 X (by decide)

/-- The rows of all devices, one under the other. -/
def rows : S8x128.Idx → Elt F .f32 := fun i => unrow (lam ⟨(i 0).val, (i 0).isLt⟩) (fun a => ⟨![0, (i 1).val] a, by
  fin_cases a
  · exact Nat.one_pos
  · exact (i 1).isLt⟩)

theorem rows_emb (d : Dev nD) (j : S1x128.Idx) : rows lam ((amR d).emb j) = unrow (lam d) j := by
  have h0 : (((amR d).emb j) 0).val = d.val := by
    rw [Rect.emb_apply]
    show d.val + 1 * (j 0).val = d.val
    have : (j 0).val < 1 := (j 0).isLt
    omega
  have h1 : (((amR d).emb j) 1).val = (j 1).val := by
    rw [Rect.emb_apply]
    show 0 + 1 * (j 1).val = (j 1).val
    omega
  unfold rows
  congr 1
  · exact congrArg lam (Fin.ext h0)
  · funext a
    apply Fin.ext
    fin_cases a
    · have : (j 0).val < 1 := (j 0).isLt
      show 0 = (j 0).val
      omega
    · exact h1

theorem row_owns (d : Dev nD) (q : PosShare TreeShare) (X : S128.Idx → Elt F .f32) :
    (owns (c : Thread nD τ) (rowM d) q X : sProp 𝕄) ⊢ owns (c : Thread nD τ) (amM.slice (amR d) (fun _ => rfl)) q (unrow X) := by
  unfold owns
  iintro ⟨%f, %hf, H⟩
  iexists f
  isplitr
  · ipureintro
    rw [← hf]
    exact (shapeCast_shapeCast (s := S1x128) (t := S128) ((amM.slice (amR d) (fun _ => rfl)).view.read (Elt F) f) (by decide) (by decide)).symm
  · rw [View.set_reshape]; iexact H

theorem any_row (d : Dev nD) : (anyo c (amM.slice (amR d) (fun _ => rfl)) : sProp 𝕄) ⊢ anyo c (rowM d) := by
  unfold anyo owns
  iintro ⟨%X, %f, -, H⟩
  iexists ((rowM d).view.read (Elt F) f)
  iexists f
  isplitr
  · ipureintro; rfl
  · rw [View.set_reshape]; iexact H

theorem rows_cut : (anyo c amM : sProp 𝕄) ⊢ bigSep Finset.univ fun d => anyo c (rowM d) :=
  (any_split c amM amR (fun _ _ => rfl) amR_disj amR_cov).1.trans (bigSep_mono fun d _ => any_row c d)

theorem rows_join : (bigSep Finset.univ fun d => owns (c : Thread nD τ) (rowM d) fullShare (lam d) : sProp 𝕄) ⊢ owns (c : Thread nD τ) amM fullShare (rows lam) :=
  (bigSep_mono fun d _ => (row_owns c d fullShare (lam d)).trans (Entails.of_eq (congrArg (owns (c : Thread nD τ) (amM.slice (amR d) (fun _ => rfl)) fullShare)
    (funext fun j => (rows_emb lam d j).symm)))).trans
    (owns_of_rects (c : Thread nD τ) amM fullShare amR (fun _ _ => rfl) amR_disj amR_cov (rows lam))

end Cut

end Cert.KernelIdeal.Pf

end
-- ==== Proof.KernelIdeal.Body.lean ====
/-
The whole body of the kernel on one device.
-/
module

public import proofs.«01_k».proof.Proof.KernelIdeal.Parts2
public import proofs.«01_k».proof.Proof.KernelIdeal.Regions

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (K : Dev nD × Kk → ℕ)

/-! ## What a device computes -/

/-- The sum of the eight products, before quantisation, -/
def Acc (c : Dev nD) : S512x2048.Idx → Elt F .f32 := acc m c [6, 3, 1, 4, 5, 7, 2]
/-- its greatest magnitude, as a row, -/
def lamOf (c : Dev nD) : S128.Idx → Elt F .f32 := shapeCast S128 (k0_pay23 (F := F) (Acc m c)) (show S1x128.ShapeCasts S128 by decide)
/-- and the result. -/
def outv (c : Dev nD) : S512x2048.Idx → Elt F .f32 := k0_pay1 (F := F) (k0_pay24 (F := F) (rows (lamOf m))) (Acc m c)

theorem WP_bind (c : Dev nD) {α β : Type} (p : Prog (TpuEff nD τ sig (Elt F) Λ₀ .tc) α) (k : α → Prog (TpuEff nD τ sig (Elt F) Λ₀ .tc) β)
    (Q : β → sProp (MT nD τ sig Unit (Elt F) ℕ UU ℕ)) : WP c p (fun a => WP c (k a) Q) ⊢ WP c (p >>= k) Q := by
  unfold WP
  rw [wp_bind]

/-- The devices' rows for `c`, in the order in which `c` reports. -/
theorem rows_turn (c : Dev nD) :
    iprop(anyo c (rowM c) ∗ anyo (px 1 c) (rowM c) ∗ anyo (px 2 c) (rowM c) ∗ anyo (px 3 c) (rowM c) ∗ anyo (px 4 c) (rowM c) ∗ anyo (px 5 c) (rowM c)
        ∗ anyo (px 6 c) (rowM c) ∗ anyo (px 7 c) (rowM c))
      ⊢ (iprop(anyo c (rowM c) ∗ amRoom 0 c ∗ amRoom 1 c ∗ amRoom 2 c ∗ amRoom 3 c ∗ amRoom 4 c ∗ amRoom 5 c ∗ amRoom 6 c) : sProp 𝕄) :=
  Entails.of_eq ((bigSep_px c fun d => (anyo d (rowM c) : sProp 𝕄)).symm.trans (bigSep_rot c fun d => (anyo d (rowM c) : sProp 𝕄)))

theorem am_joins (lam : Dev nD → S128.Idx → Elt F .f32) (c : Dev nD) :
    iprop(amSh lam 0 c ∗ amSh lam 1 c ∗ amSh lam 2 c ∗ amSh lam 3 c ∗ amSh lam 4 c ∗ amSh lam 5 c ∗ amSh lam 6 c ∗ amRest lam 7 c) ⊢ (amRest lam 0 c : sProp 𝕄) :=
  (sep_mono_right ((sep_mono_right ((sep_mono_right ((sep_mono_right ((sep_mono_right ((sep_mono_right (am_join lam c 6)).trans
    (am_join lam c 5))).trans (am_join lam c 4))).trans (am_join lam c 3))).trans (am_join lam c 2))).trans (am_join lam c 1))).trans (am_join lam c 0)

theorem rows_gather (lam : Dev nD → S128.Idx → Elt F .f32) (c : Dev nD) :
    iprop(amRest lam 0 c ∗ amGot lam 1 c ∗ amGot lam 2 c ∗ amGot lam 3 c ∗ amGot lam 4 c ∗ amGot lam 5 c ∗ amGot lam 6 c ∗ amGot lam 7 c)
      ⊢ (owns (c : Thread nD τ) amM fullShare (rows lam) : sProp 𝕄) :=
  (Entails.of_eq (bigSep_rot c fun d => (owns (c : Thread nD τ) (rowM d) fullShare (lam d) : sProp 𝕄)).symm).trans (rows_join lam c)

/-! ## Before and after -/

/-- The rows of a device's table of magnitudes. -/
def myRows (c : Dev nD) : sProp 𝕄 := bigSep Finset.univ fun d => anyo c (rowM d)

/-- What a device starts with. -/
def Pre (c : Dev nD) (X : S512x2048.Idx → Elt F .f32) : sProp 𝕄 :=
  iprop((Ob 0 c ∗ cred (tallyAt (kcell (c, .bar)) () 3) ∗ pos (c, .bar) ∗ out c X)
    ∗ (bigSep Finset.univ fun j : Fin 3 => tok (px (bp j) c, .bar) j) ∗ (bigSep Finset.univ fun j : Fin 3 => offer j c)
    ∗ (bigSep Finset.univ fun v : Fin 8 => xh m v.val c)
    ∗ (bigSep Finset.univ fun s : Fin 4 => xl s c) ∗ (bigSep Finset.univ fun s : Fin 4 => dz c (xdS s))
    ∗ (bigSep Finset.univ fun s : Fin 8 => sg s c) ∗ (bigSep Finset.univ fun v : Fin 8 => wq m v.val c)
    ∗ (bigSep Finset.univ fun i : Fin 12 => sendT i c) ∗ (bigSep Finset.univ fun i : Fin 12 => wt (.rcv i) c)
    ∗ myRows c
    ∗ (bigSep Finset.univ fun d : Fin 7 => amT d c) ∗ (bigSep Finset.univ fun d : Fin 7 => wt (.arv (rot (d.val + 1) c)) c))

/-- What it ends with. -/
def Post (c : Dev nD) : sProp 𝕄 :=
  iprop((Ob 22 c ∗ out c (outv m c) ∗ owns (c : Thread nD τ) amM fullShare (rows (lamOf m)) ∗ dn .bar c)
    ∗ (bigSep Finset.univ fun i : Fin 12 => dn (.snd i) c) ∗ (bigSep Finset.univ fun i : Fin 12 => dn (.rcv i) c)
    ∗ (bigSep Finset.univ fun d : Fin 7 => dn (.asd d) c) ∗ (bigSep Finset.univ fun d : Fin 7 => dn (.arv (rot (d.val + 1) c)) c)
    ∗ (bigSep Finset.univ fun v : Fin 8 => xh m v.val c)
    ∗ (bigSep Finset.univ fun s : Fin 4 => xl s c) ∗ (bigSep Finset.univ fun s : Fin 4 => dz c (xdS s))
    ∗ (bigSep Finset.univ fun s : Fin 8 => sg s c)
    ∗ (bigSep Finset.univ fun t : Fin 5 => anyo c (slotM rlM t))
    ∗ (bigSep Finset.univ fun v : Fin 7 => anyo c (slotM rcM v.succ))
    ∗ (bigSep Finset.univ fun v : Fin 8 => wv m v.val c) ∗ (bigSep Finset.univ fun v : Fin 8 => wd m v.val c))

theorem Acc_out (c : Dev nD) :
    (out c (mmAdd (mmAdd (mmAdd (mmAdd (mmAdd (mmAdd (mmAdd (acc m c []) (gb m 2 c) (wraw m c (px 2 c))) (gb m 7 c) (wraw m c (px 7 c)))
      (gb m 5 c) (wraw m c (px 5 c))) (gb m 4 c) (wraw m c (px 4 c))) (gb m 1 c) (wraw m c (px 1 c))) (gb m 3 c) (wraw m c (px 3 c)))
      (gb m 6 c) (wraw m c (px 6 c))) : sProp 𝕄) ⊢ out c (Acc m c) := Entails.refl

/-- The staging slots, -/
theorem sg_back (c : Dev nD) :
    iprop(anyo c (srcM 1) ∗ anyo c (srcM 2) ∗ anyo c (srcM 3) ∗ anyo c (srcM 4) ∗ own4 m c ∗ anyo c (srcM 8) ∗ anyo c (srcM 9) ∗ anyo c (srcM 11))
      ⊢ (bigSep Finset.univ fun s : Fin 8 => sg s c : sProp 𝕄) :=
  (sep_mono_right (sep_mono_right (sep_mono_right (sep_mono_right (sep_mono_left (to_anyo c (slotM sgM 4) (gb m 0 c))))))).trans
    (Entails.of_eq (bigSep_f8 fun s : Fin 8 => (sg s c : sProp 𝕄)).symm)
/-- the relay slots, -/
theorem rl_back (c : Dev nD) :
    iprop(anyo c (srcM 5) ∗ anyo c (srcM 6) ∗ anyo c (srcM 7) ∗ anyo c (srcM 10) ∗ anyo c (srcM 0))
      ⊢ (bigSep Finset.univ fun t : Fin 5 => anyo c (slotM rlM t) : sProp 𝕄) :=
  Entails.of_eq (bigSep_f5 fun t : Fin 5 => (anyo c (slotM rlM t) : sProp 𝕄)).symm
/-- and the slots of received blocks, once used. -/
theorem rc_back (c : Dev nD) :
    iprop(rc m 1 1 c ∗ rc m 2 2 c ∗ rc m 3 3 c ∗ rc m 4 4 c ∗ rc m 5 5 c ∗ rc m 6 6 c ∗ rc m 7 7 c)
      ⊢ (bigSep Finset.univ fun v : Fin 7 => anyo c (slotM rcM v.succ) : sProp 𝕄) :=
  (BI.sep_mono (to_anyo c _ _) (BI.sep_mono (to_anyo c _ _) (BI.sep_mono (to_anyo c _ _) (BI.sep_mono (to_anyo c _ _) (BI.sep_mono (to_anyo c _ _)
    (BI.sep_mono (to_anyo c _ _) (to_anyo c _ _))))))).trans
    (Entails.of_eq (bigSep_f7 fun v : Fin 7 => (anyo c (slotM rcM v.succ) : sProp 𝕄)).symm)

section Body
variable (c : Dev nD)
variable {h0 : xA.IsWhole} {h1 : wA.IsWhole} {h2 : oM.IsWhole} {h3 : xlM.IsWhole} {h4 : sgM.IsWhole} {h5 : rcM.IsWhole} {h6 : rlM.IsWhole}
  {h7 : wvM.IsWhole} {h8 : amM.IsWhole}

theorem rows_start :
    (myRows c : sProp 𝕄) ⊢ iprop(anyo c (rowM c) ∗ sperm 8 c ∗ sperm 1 c ∗ sperm 11 c ∗ sperm 9 c ∗ sperm 3 c ∗ sperm 4 c ∗ sperm 2 c) := by
  unfold myRows
  rw [bigSep_px c]
  unfold sperm
  simp only [show ∀ i : Fin 12, i ∈ ([8, 1, 11, 9, 3, 4, 2] : List (Fin 12)) → px (oo i) c = c from fun i hi => by
    rw [show oo i = 0 by revert i; decide, px_zero], List.mem_cons, true_or, or_true]
  exact Entails.refl

set_option maxHeartbeats 4000000 in
theorem body_spec (X : S512x2048.Idx → Elt F .f32) {Q} :
    ctx m (lamOf m) K ⊢ iprop(Pre m c X -∗ (Post m c -∗ Q ⟨⟩) -∗ WP c (cc0_body xA h0 wA h1 oM h2 xlM h3 sgM h4 rcM h5 rlM h6 wvM h7 amM h8 cc0_scratch6 cc0_scratch7 cc0_scratch8 cc0_scratch9 cc0_scratch10 cc0_scratch11 cc0_scratch12) Q) := by
  unfold Pre
  simp only [bigSep_f3, bigSep_f4, bigSep_f7, bigSep_f8, bigSep_f12, Fin.coe_ofNat_eq_mod, Nat.reduceMod, Nat.zero_mod, Nat.one_mod, Nat.reduceAdd, Nat.zero_add]
  iintro #Hc ⟨⟨Ho, Hcr, Hb, Hout⟩, ⟨B0, B1, B2⟩, ⟨F0, F1, F2⟩, ⟨X0, X1, X2, X3, X4, X5, X6, X7⟩, ⟨L0, L1, L2, L3⟩, ⟨Z0, Z1, Z2, Z3⟩,
    ⟨S0, S1, S2, S3, S4, S5, S6, S7⟩, ⟨W0, W1, W2, W3, W4, W5, W6, W7⟩, ⟨T0, T1, T2, T3, T4, T5, T6, T7, T8, T9, T10, T11⟩,
    ⟨R0, R1, R2, R3, R4, R5, R6, R7, R8, R9, R10, R11⟩, Hrows, ⟨A0, A1, A2, A3, A4, A5, A6⟩, ⟨V1, V2, V3, V4, V5, V6, V7⟩⟩ Hk
  ihave Hrows' := (rows_start (F := F) c) $$ Hrows
  icases Hrows' with ⟨Hrow, P8, P1, P11, P9, P3, P4, P2⟩
  rw [cc0_body_eq_skeleton]
  unfold cc0_body_skel
  iapply (WP_bind c _ _ _)
  rw [k0_part30_eq_skeleton]
  unfold k0_part30_skel
  iapply (WP_bind c _ _ _)
  iapply (part1_spec m (lamOf m) K c ) $$ Hc Ho B0 B1 B2 F0 F1 F2 X2 L0 Z0
  iintro %a2 %a3 %a4 %a5 %a16 %a17 %a18 %a19 Ho X2
  try dsimp only
  iapply (WP_bind c _ _ _)
  iapply (part2_spec m c _ _ _) $$ X7 L1 Z1 X5 L2 Z2 X6 L3 Z3 W0
  iintro X7 X5 X6 W0
  try dsimp only
  iapply (WP_bind c _ _ _)
  iapply (part3_spec m c _) $$ W2 W7 W5 W4 W1
  iintro %b1 %b2 W2 W7 W5 W4 W1
  try dsimp only
  iapply (WP_bind c _ _ _)
  iapply (part4_spec m (lamOf m) K c _ _ _ _) $$ Hc W3 W6 Hcr Ho Hb X2 S0
  iintro W3 W6 Hb Hrm Ho X2 Z0 L0 C1
  try dsimp only
  unfold rooms
  icases Hrm with ⟨⟨M1, M4, M6, M8⟩, ⟨M2, M5, M10, M11⟩, ⟨M3, M7, M9, M0⟩⟩
  iapply (WP_bind c _ _ _)
  iapply (part5_spec m (lamOf m) K c _ _) $$ Hc X0 L0 Z0 C1 M1 P1 Ho T1 X7 S1
  iintro X0 T1 Ho X7 Z1 L1 C2
  try dsimp only
  iapply (WP_bind c _ _ _)
  iapply (part6_spec m (lamOf m) K c _ _ _) $$ Hc X1 L1 Z1 C2 M2 P2 Ho T2 X5 S2
  iintro X1 T2 Ho X5 Z2 L2 C3
  try dsimp only
  iapply (WP_bind c _ _ _)
  iapply (part7_spec m (lamOf m) K c _ _ _) $$ Hc X4 L2 Z2 C3 M3 P3 Ho T3 X6 S3
  iintro X4 T3 Ho X6 Z3 L3 C4
  try dsimp only
  iapply (WP_bind c _ _ _)
  iapply (part8_spec m (lamOf m) K c _ _) $$ Hc X3 L3 Z3 C4 M4 P4 Ho T4 X0 S4
  iintro X3 T4 Ho X0 Z0 L0 S4
  try dsimp only
  iapply (WP_bind c _ _ _)
  iapply (part9_spec m (lamOf m) K c _ _ X) $$ Hc W0 S4 Hout R1 M5 T5 Ho
  iintro K0 W0 S4 Hout R1 T5 Ho
  try dsimp only
  iapply (WP_bind c _ _ _)
  iapply (part10_spec m (lamOf m) K c _ _) $$ Hc R3 M6 T6 R2 Ho
  iintro R3 T6 R2 C7 P7 Ho
  try dsimp only
  iapply (WP_bind c _ _ _)
  iapply (part11_spec m (lamOf m) K c _ _) $$ Hc C7 M7 P7 T7 Ho X1 S5
  iintro T7 Ho X1 Z1 L1 C8
  try dsimp only
  iapply (WP_bind c _ _ _)
  iapply (part12_spec m (lamOf m) K c _ _) $$ Hc C8 M8 P8 T8 Ho X4 S6 M9 P9 T9
  iintro T8 Ho X4 Z2 L2 T9
  try dsimp only
  iapply (WP_bind c _ _ _)
  iapply (part13_spec m (lamOf m) K c _) $$ Hc R4 M10 T10 Ho X3 S7
  iintro R4 T10 Ho X3 Z3 L3 C11
  try dsimp only
  iapply (WP_bind c _ _ _)
  iapply (part14_spec m (lamOf m) K c _ _ _) $$ Hc C11 M11 P11 T11 Ho R5 W2 Hout
  iintro %a %b T11 Ho R5 J2 N2 K2 W2 Hout
  try dsimp only
  iapply (WP_bind c _ _ _)
  iapply (part15_spec m (lamOf m) K c _ _ _ _ _ _) $$ Hc K2 Hout R7 W7 Ho
  iintro K2 Hout R7 J7 N7 K7 W7 Ho
  try dsimp only
  iapply (WP_bind c _ _ _)
  iapply (part16_spec m (lamOf m) K c _ _ _ _) $$ Hc Hout R10 M0 T0 Ho
  iintro Hout R10 T0 Ho
  try dsimp only
  iapply (WP_bind c _ _ _)
  iapply (part17_spec m (lamOf m) K c _ _) $$ Hc R6 W5 Hout R9 Ho
  iintro %a R6 J5 N5 K5 W5 Hout R9 J4 N4 Ho
  try dsimp only
  iapply (WP_bind c _ _ _)
  iapply (part18_spec m (lamOf m) K c _ _ _) $$ Hc W4 J4 Hout R8 Ho
  iintro %a J4 K4 W4 Hout R8 J1 N1 Ho
  try dsimp only
  iapply (WP_bind c _ _ _)
  iapply (part19_spec m (lamOf m) K c _ _ _) $$ Hc W1 J1 Hout R11 Ho W3
  iintro %a J1 K1 W1 Hout R11 J3 N3 K3 W3 Ho
  try dsimp only
  iapply (WP_bind c _ _ _)
  iapply (part20_spec m (lamOf m) K c _ _ _ _) $$ Hc J3 K3 Hout R0 Ho W6
  iintro J3 K3 Hout R0 J6 N6 K6 W6 Ho
  try dsimp only
  iapply (WP_bind c _ _ _)
  iapply (part21_spec m (lamOf m) K c _ _ _) $$ Hc K6 Hout T1 T2 T3 Ho
  iintro K6 Hout Ho T1 C1 T2 C2 T3 C3
  try dsimp only
  iapply (WP_bind c _ _ _)
  iapply (part22_spec m (lamOf m) K c ) $$ Hc T4 T5 T6 Ho
  iintro Ho T4 C4 T5 C5 T6 C6
  try dsimp only
  iapply (WP_bind c _ _ _)
  iapply (part23_spec m (lamOf m) K c ) $$ Hc T7 T8 T9 T10 Ho
  iintro Ho T7 C7 T8 C8 T9 C9 T10 C10
  try dsimp only
  ihave Hrows := (rows_turn (F := F) c) $$ [Hrow N1 N2 N3 N4 N5 N6 N7]
  · iframe Hrow N1 N2 N3 N4 N5 N6 N7
  icases Hrows with ⟨Hrow, M0, M1, M2, M3, M4, M5, M6⟩
  ihave Hout := (Acc_out (F := F) m c) $$ Hout
  iapply (WP_bind c _ _ _)
  iapply (part24_spec m (lamOf m) K c _ _ rfl) $$ Hc T11 T0 Ho Hout Hrow M0 A0
  iintro %a T11 C11 T0 C0 Hout A0 Hr Ho
  try dsimp only
  iapply (WP_bind c _ _ _)
  iapply (part25_spec m (lamOf m) K c _ _) $$ Hc Hr M1 A1 M2 A2 M3 A3 Ho
  iintro %a A1 A2 A3 Hr Ho
  try dsimp only
  iapply (WP_bind c _ _ _)
  iapply (part26_spec m (lamOf m) K c _ _) $$ Hc Hr M4 A4 M5 A5 M6 A6 Ho
  iintro %a A4 A5 A6 Hr Ho
  try dsimp only
  iapply (WP_bind c _ _ _)
  iapply (part27_spec m (lamOf m) K c _ _) $$ Hc V1 V2 V3 Ho
  iintro %a %b Ho V1 G1 V2 G2 V3 G3
  try dsimp only
  iapply (WP_bind c _ _ _)
  iapply (part28_spec m (lamOf m) K c _ _ _) $$ Hc V4 V5 V6 Ho
  iintro Ho V4 G4 V5 G5 V6 G6
  try dsimp only
  iapply (WP_bind c _ _ _)
  iapply (part29_spec m (lamOf m) K c ) $$ Hc V7 A0 A1 A2 A3 A4 Ho
  iintro Ho V7 G7 A0 H0 A1 H1 A2 H2 A3 H3 A4 H4
  try dsimp only
  try simp only [semSignalWord, semWaitWord, Prog.lift, Prog.bind_op, Prog.bind_ret, Prog.pure_eq_ret, wp_deviceId]
  iapply (op_amsent m (lamOf m) K c 5 5 rfl rfl (by rfl)) $$ Hc A5 Ho
  iintro Ho A5 H5
  iapply (op_amsent m (lamOf m) K c 6 6 rfl rfl (by rfl)) $$ Hc A6 Ho
  iintro Ho A6 H6
  ihave Hr := (am_joins (lamOf m) c) $$ [H0 H1 H2 H3 H4 H5 H6 Hr]
  · iframe H0 H1 H2 H3 H4 H5 H6 Hr
  ihave Ham := (rows_gather (lamOf m) c) $$ [Hr G1 G2 G3 G4 G5 G6 G7]
  · iframe Hr G1 G2 G3 G4 G5 G6 G7
  iapply (step_loada c fullShare (rows (lamOf m))) $$ Ham
  iintro Ham
  iapply (WP_ret c rfl _)
  try simp only [semSignalWord, semWaitWord, Prog.lift, Prog.bind_op, Prog.bind_ret, Prog.pure_eq_ret, wp_deviceId]
  iapply (op_loado c _) $$ Hout
  iintro Hout
  iapply (op_loado c _) $$ Hout
  iintro Hout
  iapply (op_storeo c (outv m c) _ rfl) $$ Hout
  iintro Hout
  iapply (WP_ret c rfl _)
  ihave Hsg := (sg_back m c) $$ [C1 C2 C3 C4 S4 C8 C9 C11]
  · iframe C1 C2 C3 C4 S4 C8 C9 C11
  ihave Hrl := (rl_back (F := F) c) $$ [C5 C6 C7 C10 C0]
  · iframe C5 C6 C7 C10 C0
  ihave Hrc := (rc_back m c) $$ [J1 J2 J3 J4 J5 J6 J7]
  · iframe J1 J2 J3 J4 J5 J6 J7
  iapply Hk
  unfold Post
  iframe Ho Hout Ham Hb Hsg Hrl Hrc
  simp only [bigSep_f3, bigSep_f4, bigSep_f7, bigSep_f8, bigSep_f12, Fin.coe_ofNat_eq_mod, Nat.reduceMod, Nat.zero_mod, Nat.one_mod, Nat.reduceAdd, Nat.zero_add]
  iframe T0 T1 T2 T3 T4 T5 T6 T7 T8 T9 T10 T11
  iframe R0 R1 R2 R3 R4 R5 R6 R7 R8 R9 R10 R11
  iframe A0 A1 A2 A3 A4 A5 A6 V1 V2 V3 V4 V5 V6 V7
  iframe X0 X1 X2 X3 X4 X5 X6 X7 L0 L1 L2 L3 Z0 Z1 Z2 Z3
  iframe K0 K1 K2 K3 K4 K5 K6 K7 W0 W1 W2 W3 W4 W5 W6 W7
end Body

end Cert.KernelIdeal.Pf

end
-- ==== Proof.KernelIdeal.Ghost.lean ====
/-
What the devices hold when they start: semaphores, rights to pay, credit.
-/
module

public import proofs.«01_k».proof.Proof.KernelIdeal.Body

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ)

/-! ## Families over the cells of a device -/

/-- The cells of a device, kind by kind. -/
def kE : Unit ⊕ (Fin 12 ⊕ (Fin 12 ⊕ (Fin 7 ⊕ Fin 8))) ≃ Kk where
  toFun
    | .inl _ => .bar
    | .inr (.inl i) => .snd i
    | .inr (.inr (.inl i)) => .rcv i
    | .inr (.inr (.inr (.inl d))) => .asd d
    | .inr (.inr (.inr (.inr j))) => .arv j
  invFun
    | .bar => .inl ()
    | .snd i => .inr (.inl i)
    | .rcv i => .inr (.inr (.inl i))
    | .asd d => .inr (.inr (.inr (.inl d)))
    | .arv j => .inr (.inr (.inr (.inr j)))
  left_inv x := by rcases x with _ | _ | _ | _ | _ <;> rfl
  right_inv x := by cases x <;> rfl

section Fam
variable {R : Type} [URA R]

theorem bigSep_kk (Φ : Kk → sProp R) : bigSep Finset.univ Φ = iprop(Φ .bar ∗ (bigSep Finset.univ fun i => Φ (.snd i)) ∗ (bigSep Finset.univ fun i => Φ (.rcv i))
    ∗ (bigSep Finset.univ fun d => Φ (.asd d)) ∗ bigSep Finset.univ fun j => Φ (.arv j)) := by
  rw [bigSep_univ_equiv kE, bigSep_univ_sum, bigSep_univ_sum, bigSep_univ_sum, bigSep_univ_sum,
    show bigSep Finset.univ (fun a : Unit => Φ (kE (.inl a))) = Φ .bar from bigSep_univ_eq_bigSepL [()] (by decide) (by decide) _]
  rfl

/-- A family over the devices: the device itself, and those after it. -/
theorem bigSep_after (c : Dev nD) (Φ : Dev nD → sProp R) :
    bigSep Finset.univ Φ = iprop(Φ c ∗ bigSep Finset.univ fun d : Fin 7 => Φ (rot (d.val + 1) c)) := by
  rw [bigSep_rot c, bigSep_f7]; rfl

/-- Over all devices, what is written for a device or for the partner at the bits of `v` is the same. -/
theorem bigSep_partner (v : Fin 8) (Φ : Dev nD → sProp R) :
    bigSep Finset.univ Φ = bigSep Finset.univ fun c : Dev nD => Φ (px v.val c) := bigSep_univ_equiv (pxE v) Φ

theorem bigSep_sep_eq {I : Type} [DecidableEq I] (S : Finset I) (Φ Ψ : I → sProp R) :
    bigSep S (fun i => iprop(Φ i ∗ Ψ i)) = iprop(bigSep S Φ ∗ bigSep S Ψ) := by
  have h := bigSep_sep (s := S) (Φ := Φ) (Ψ := Ψ)
  exact h

theorem bigSep_persist {I : Type} [DecidableEq I] {S : Finset I} {P : sProp R} [BI.Persistent P] {Φ Ψ : I → sProp R}
    (h : ∀ i ∈ S, iprop(P ∗ Φ i) ⊢ Ψ i) : iprop(P ∗ bigSep S Φ) ⊢ bigSep S Ψ :=
  (sep_mono_left (BI.bigSep_of_persistent S P)).trans (by rw [← bigSep_sep_eq]; exact bigSep_mono h)
end Fam

/-! ## The semaphores at the start -/

/-- The kernel's own semaphores: those of the exchange, then those for copies within a device and the two that stay idle. -/
def osem : (Fin 12 ⊕ (Fin 12 ⊕ (Fin 7 ⊕ Fin 8))) ⊕ (Fin 4 ⊕ (Fin 8 ⊕ Fin 2)) → SemLoc sig
  | .inl x => csem (kE (.inr x))
  | .inr (.inl s) => .dma (xdS s)
  | .inr (.inr (.inl s)) => .dma (wdS s)
  | .inr (.inr (.inr t)) => .dma (![frS 0, asS 0] t)

theorem ownSemFacts : Pipeline.OwnSemFacts cfg0.spec osem := by decide +kernel

/-- The semaphores of a device that take no part in the exchange. -/
def spare (c : Dev nD) : sProp 𝕄 :=
  iprop((bigSep Finset.univ fun s : Fin 4 => dz c (xdS s)) ∗ (bigSep Finset.univ fun s : Fin 8 => dz c (wdS s)) ∗ bigSep Finset.univ fun t : Fin 2 => dz c (![frS 0, asS 0] t))

theorem unscopedSems0_eq (c : Dev nD) : (unscopedSems0 c : sProp 𝕄) = dn .bar c := by
  unfold unscopedSems0; rw [bigSep_eq_bigSepL_of_eq [SemLoc.reg barS] (by decide) (by decide)]; rfl

theorem ownSems0_eq (c : Dev nD) : (Pipeline.ownSems0 (Ix := Unit) (Name := ℕ) (U := UU) (Lvl := ℕ) (Val := Elt F) (τ := τ) osem c : sProp 𝕄)
    = iprop(((bigSep Finset.univ fun i : Fin 12 => dn (.snd i) c) ∗ (bigSep Finset.univ fun i : Fin 12 => dn (.rcv i) c)
        ∗ (bigSep Finset.univ fun d : Fin 7 => dn (.asd d) c) ∗ (bigSep Finset.univ fun j : Fin 8 => dn (.arv j) c)) ∗ spare c) := by
  unfold Pipeline.ownSems0
  rw [bigSep_univ_sum, bigSep_univ_sum, bigSep_univ_sum, bigSep_univ_sum, bigSep_univ_sum, bigSep_univ_sum]
  rfl

theorem sems0_eq (c : Dev nD) :
    iprop(Pipeline.ownSems0 (Ix := Unit) (Name := ℕ) (U := UU) (Lvl := ℕ) (Val := Elt F) (τ := τ) osem c ∗ unscopedSems0 c)
      ⊢ iprop((bigSep Finset.univ fun k : Kk => (semVal (kcell (c, k)) 0 : sProp 𝕄)) ∗ spare c) := by
  rw [ownSems0_eq, unscopedSems0_eq, bigSep_kk]
  unfold dn
  iintro ⟨⟨⟨H1, H2, H3, H4⟩, Hs⟩, Hb⟩
  iframe Hb H1 H2 H3 H4 Hs

/-! ## The ghost state at the start -/

def ringCells : Finset (GSem nD τ sig) := Finset.univ.map ⟨kcell, kcell_inj⟩

abbrev tokOf (x : (Dev nD × Kk) × Fin 3) : GSem nD τ sig × ℕ × Fin 3 := (kcell x.1, 0, x.2)
theorem tokOf_inj : Function.Injective tokOf := by
  rintro ⟨a, d⟩ ⟨a', d'⟩ h
  have h1 : kcell a = kcell a' := congrArg Prod.fst h
  have h2 : d = d' := congrArg (fun x : GSem nD τ sig × ℕ × Fin 3 => x.2.2) h
  rw [kcell_inj h1, h2]
def ringToks : Finset (GSem nD τ sig × ℕ × Fin 3) := Finset.univ.map ⟨tokOf, tokOf_inj⟩

def u₀ : UU := (initOf (Pipeline.cells cfgs cellOf_inj) (Pipeline.launchToks cfgs cellOf_inj), (initOf ringCells ringToks, 1))

/-- The tokens of a device's own cells. -/
def toks (c : Dev nD) : sProp 𝕄 := bigSep Finset.univ fun k : Kk => bigSep Finset.univ fun d : Fin 3 => tok (c, k) d

def G (c : Dev nD) : sProp 𝕄 :=
  iprop((bigSep Finset.univ fun k : Kk => roundState ER (Rd m (lamOf m)) (kcell (c, k)) 0)
    ∗ (bigSep Finset.univ fun k : Kk => iprop(pos (c, k) ∗ reached ER (kcell (c, k)) 0)) ∗ toks c)

theorem fund_ring : BI.own (ER (F := F) (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Kk => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod, bigSep_univ_prod]; rfl
  iintro HX
  imod (Rounds.fund ER (Rd m (lamOf m)) ringCells ringToks) $$ HX with ⟨Hst, Hr, Hat, Htok⟩
  imodintro
  ihave Hst' := (Entails.of_eq (hX fun g => roundState ER (Rd m (lamOf m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep_eq]
  isplitl [Hst']; · iexact Hst'
  isplitl [Hat' Hr']
  · isplitl [Hat']
    · iexact Hat'
    · iexact Hr'
  iexact Htok'

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m (lamOf m)) κ (kcell (c, k))))
          ∗ (bigSep Finset.univ fun k => iprop(pos (c, k) ∗ reached ER (kcell (c, k)) 0)) ∗ toks c ∗ spare c) := by
  unfold G
  iintro ⟨Hos, Hus, Hst, Hat, Htok⟩
  ihave Hv := (sems0_eq (F := F) c) $$ [Hos Hus]
  · isplitl [Hos] <;> iassumption
  icases Hv with ⟨Hv, Hsp⟩
  imod (show iprop((bigSep Finset.univ fun k : Kk => semVal (kcell (c, k)) 0) ∗ bigSep Finset.univ fun k : Kk => roundState ER (Rd m (lamOf m)) (kcell (c, k)) 0)
      ⊢ (|={Set.univ}=> bigSep Finset.univ fun k => iprop(∃ κ : ℕ, cellInv ER (Rd m (lamOf m)) κ (kcell (c, k))) : sProp 𝕄) from by
        rw [← bigSep_sep_eq]
        exact (bigSep_mono fun k _ => (Rounds.body_intro ER (Rd m (lamOf m)) (kcell (c, k))).trans inv_alloc).trans (bigSep_fupd _ _)) $$ [Hv Hst] with Hinv
  · isplitl [Hv] <;> iassumption
  imodintro
  iframe Hinv Hat Htok Hsp

/-- What stays with a device: its positions, and the tokens of what it pays. -/
def linear (c : Dev nD) : sProp 𝕄 :=
  iprop((bigSep Finset.univ fun j : Fin 3 => tok (px (bp j) c, .bar) j) ∗ (bigSep Finset.univ fun i : Fin 12 => tok (c, .snd i) 0)
    ∗ (bigSep Finset.univ fun i : Fin 12 => tok (px (pp i) c, .rcv i) 0) ∗ (bigSep Finset.univ fun d : Fin 7 => tok (c, .asd d) 0)
    ∗ (bigSep Finset.univ fun d : Fin 7 => tok (rot (d.val + 1) c, .arv c) 0) : sProp 𝕄)

theorem tok0 (c : Dev nD) (k : Kk) : (bigSep Finset.univ fun d : Fin 3 => tok (c, k) d : sProp 𝕄) ⊢ tok (c, k) 0 := bigSep_elim (Finset.mem_univ 0)

/-- The tokens, each to the device that pays with it. -/
theorem toks_around : (bigSep Finset.univ fun c : Dev nD => (toks c : sProp 𝕄)) ⊢ bigSep Finset.univ fun c : Dev nD => linear c := by
  have h1 (c : Dev nD) : (toks c : sProp 𝕄) ⊢ iprop((bigSep Finset.univ fun j : Fin 3 => tok (c, .bar) j) ∗ (bigSep Finset.univ fun i : Fin 12 => tok (c, .snd i) 0)
      ∗ (bigSep Finset.univ fun i : Fin 12 => tok (c, .rcv i) 0) ∗ (bigSep Finset.univ fun d : Fin 7 => tok (c, .asd d) 0)
      ∗ (bigSep Finset.univ fun j : Fin 8 => tok (c, .arv j) 0)) := by
    unfold toks
    rw [bigSep_kk]
    exact sep_mono_right (BI.sep_mono (bigSep_mono fun i _ => tok0 c _) (BI.sep_mono (bigSep_mono fun i _ => tok0 c _)
      (BI.sep_mono (bigSep_mono fun i _ => tok0 c _) (bigSep_mono fun i _ => tok0 c _))))
  have hb : (bigSep Finset.univ fun c : Dev nD => bigSep Finset.univ fun j : Fin 3 => (tok (c, .bar) j : sProp 𝕄))
      = bigSep Finset.univ fun c : Dev nD => bigSep Finset.univ fun j : Fin 3 => tok (px (bp j) c, .bar) j := by
    rw [Pipeline.bigSep_univ_comm, Pipeline.bigSep_univ_comm (fun (c : Dev nD) (j : Fin 3) => (tok (px (bp j) c, .bar) j : sProp 𝕄))]
    exact bigSep_congr fun j _ => bigSep_partner ⟨bp j, by revert j; decide⟩ fun c => (tok (c, .bar) j : sProp 𝕄)
  have hr : (bigSep Finset.univ fun c : Dev nD => bigSep Finset.univ fun i : Fin 12 => (tok (c, .rcv i) 0 : sProp 𝕄))
      = bigSep Finset.univ fun c : Dev nD => bigSep Finset.univ fun i : Fin 12 => tok (px (pp i) c, .rcv i) 0 := by
    rw [Pipeline.bigSep_univ_comm, Pipeline.bigSep_univ_comm (fun (c : Dev nD) (i : Fin 12) => (tok (px (pp i) c, .rcv i) 0 : sProp 𝕄))]
    exact bigSep_congr fun i _ => bigSep_partner ⟨pp i, by revert i; decide⟩ fun c => (tok (c, .rcv i) 0 : sProp 𝕄)
  have ha : (bigSep Finset.univ fun c : Dev nD => bigSep Finset.univ fun j : Fin 8 => (tok (c, .arv j) 0 : sProp 𝕄))
      ⊢ bigSep Finset.univ fun c : Dev nD => bigSep Finset.univ fun d : Fin 7 => tok (rot (d.val + 1) c, .arv c) 0 := by
    rw [Pipeline.bigSep_univ_comm]
    refine bigSep_mono fun c _ => ?_
    rw [bigSep_after c]
    show (iprop(tok (c, .arv c) 0 ∗ bigSep Finset.univ fun d : Fin 7 => tok (rot (d.val + 1) c, .arv c) 0) : sProp 𝕄) ⊢ bigSep Finset.univ fun d : Fin 7 => tok (rot (d.val + 1) c, .arv c) 0
    iintro ⟨-, H⟩; iexact H
  refine (bigSep_mono fun c _ => h1 c).trans ?_
  unfold linear
  simp only [bigSep_sep_eq]
  rw [hb, hr]
  exact sep_mono_right (sep_mono_right (sep_mono_right (sep_mono_right ha)))

/-- What the devices know together. -/
def records (K : Dev nD × Kk → ℕ) : sProp 𝕄 :=
  iprop(bigSep Finset.univ (fun ck => cellInv ER (Rd m (lamOf m)) (K ck) (kcell ck)) ∗ bigSep Finset.univ (fun ck => reached ER (kcell ck) 0))

instance records_persistent (K : Dev nD × Kk → ℕ) : BI.Persistent (records m K) := by unfold records; infer_instance

/-- What the global step leaves with a device. -/
def G' (c : Dev nD) : sProp 𝕄 := iprop(∃ K, records m K ∗ (bigSep Finset.univ fun k : Kk => pos (c, k)) ∗ linear c ∗ spare c)

theorem regroup :
    (bigSep Finset.univ fun c : Dev nD => iprop((bigSep Finset.univ fun k => iprop(∃ κ : ℕ, cellInv ER (Rd m (lamOf m)) κ (kcell (c, k))))
          ∗ (bigSep Finset.univ fun k => iprop(pos (c, k) ∗ reached ER (kcell (c, k)) 0)) ∗ toks c ∗ spare c) : sProp 𝕄)
      ⊢ bigSep Finset.univ (G' m) := by
  simp only [bigSep_sep_eq]
  rw [← bigSep_univ_prod (fun ck : Dev nD × Kk => iprop(∃ κ : ℕ, cellInv ER (Rd m (lamOf m)) κ (kcell ck))),
    ← bigSep_univ_prod (fun ck : Dev nD × Kk => (reached ER (kcell ck) 0 : sProp 𝕄))]
  iintro ⟨HI, ⟨Hat, #HR⟩, Htok, Hsp⟩
  ihave HK := (BI.bigSep_exists_pi Finset.univ (fun (ck : Dev nD × Kk) (κ : ℕ) => (cellInv ER (Rd m (lamOf m)) κ (kcell ck) : sProp 𝕄))) $$ HI
  icases HK with ⟨%K, #HI⟩
  ihave Htk := (toks_around (F := F)) $$ Htok
  iapply (bigSep_persist (P := records m K) (Φ := fun c : Dev nD => iprop((bigSep Finset.univ fun k : Kk => (pos (c, k) : sProp 𝕄)) ∗ linear c ∗ spare c)) fun c _ => by
    unfold G'; iintro ⟨#H, H'⟩; iexists K; iframe H'; iexact H)
  simp only [bigSep_sep_eq]
  isplitr
  · unfold records; isplitl; · iexact HI
    iexact HR
  · iframe Hat Htk Hsp

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- What each device owes at the start. -/
def O₀ (c : Dev nD) : CellTallies nD τ sig Unit := Owe (oblig c)

theorem Owe_at (p : Dev nD × Kk) : ∀ l : List (Dev nD × Kk), Owe l (kcell p) () = l.count p * amt p.2
  | [] => by unfold Owe; rw [List.count_nil, Nat.zero_mul]; rfl
  | q :: l => by
    unfold Owe
    rw [Pi.add_apply, Finsupp.add_apply, tallyAt_apply, Owe_at p l, List.count_cons, Nat.add_mul]
    by_cases h : p = q
    · subst h; rw [if_pos ⟨rfl, rfl⟩, if_pos (by simp), Nat.one_mul]
    · rw [if_neg (fun h' => h (kcell_inj h'.1)), if_neg (by simpa using fun h' => h h'.symm), Nat.zero_mul]

theorem launch_k (p : Dev nD × Kk) (n : ℕ) (h : ∑ d : Dev nD, (oblig d).count p = n) :
    tallyOn (kcell p) (launchCredit (Pipeline.owing O₀) 0 (kcell p)) = (tallyAt (kcell p) () (n * amt p.2) : CellTallies nD τ sig Unit) := by
  unfold tallyAt; refine congrArg _ (Finsupp.ext fun u => ?_); cases u
  rw [Pipeline.launchCredit_owing, Finsupp.single_eq_same, Finset.sum_congr rfl fun d _ => (show (O₀ d (kcell p)) () = (oblig d).count p * amt p.2 from Owe_at p (oblig d)), ← Finset.sum_mul, h]

theorem count_bar : ∀ c : Dev nD, ∑ d : Dev nD, (oblig d).count (c, .bar) = 3 := by decide +kernel
theorem count_rcv : ∀ (c : Dev nD) (i : Fin 12), ∑ d : Dev nD, (oblig d).count (c, .rcv i) = 1 := by decide +kernel
theorem count_arv : ∀ (c : Dev nD) (e : Fin 7), ∑ d : Dev nD, (oblig d).count (c, .arv (rot (e.val + 1) c)) = 1 := by decide +kernel

theorem cred_k (p : Dev nD × Kk) (h : ∑ d : Dev nD, (oblig d).count p = 1) :
    (cred (tallyOn (kcell p) (launchCredit (Pipeline.owing O₀) 0 (kcell p))) : sProp 𝕄) = crd p := by
  rw [launch_k p 1 h, Nat.one_mul]; rfl

/-- The credit of a cell at the start. -/
def lcr (p : Dev nD × Kk) : sProp 𝕄 := cred (tallyOn (kcell p) (launchCredit (Pipeline.owing O₀) 0 (kcell p)))

theorem lcr_rcv (c : Dev nD) : (bigSep Finset.univ fun i : Fin 12 => lcr (c, .rcv i) : sProp 𝕄) ⊢ bigSep Finset.univ fun i : Fin 12 => crd (c, .rcv i) :=
  bigSep_mono fun i _ => Entails.of_eq (cred_k (c, .rcv i) (count_rcv c i))
theorem lcr_arv (c : Dev nD) : (bigSep Finset.univ fun e : Fin 7 => lcr (c, .arv (rot (e.val + 1) c)) : sProp 𝕄)
    ⊢ bigSep Finset.univ fun e : Fin 7 => crd (c, .arv (rot (e.val + 1) c)) :=
  bigSep_mono fun e _ => Entails.of_eq (cred_k (c, .arv (rot (e.val + 1) c)) (count_arv c e))
theorem lcr_bar (c : Dev nD) : (lcr (c, .bar) : sProp 𝕄) = cred (tallyAt (kcell (c, .bar)) () 3) := by
  unfold lcr; rw [launch_k (c, .bar) 3 (count_bar c)]; rfl

theorem creds (c : Dev nD) : (Pipeline.launchCred O₀ c : sProp 𝕄)
    ⊢ iprop(cred (tallyAt (kcell (c, .bar)) () 3) ∗ (bigSep Finset.univ fun i : Fin 12 => crd (c, .rcv i))
        ∗ (bigSep Finset.univ fun e : Fin 7 => crd (c, .arv (rot (e.val + 1) c)))) := by
  unfold Pipeline.launchCred
  refine (bigSep_subset (t := Finset.univ.map ⟨csem, csem_inj⟩) (Finset.subset_univ _)).trans ?_
  rw [bigSep_map]
  show (bigSep Finset.univ fun k : Kk => (lcr (c, k) : sProp 𝕄)) ⊢ iprop(cred (tallyAt (kcell (c, .bar)) () 3) ∗ (bigSep Finset.univ fun i : Fin 12 => crd (c, .rcv i))
        ∗ (bigSep Finset.univ fun e : Fin 7 => crd (c, .arv (rot (e.val + 1) c))))
  rw [bigSep_kk, bigSep_after c fun j => (lcr (c, .arv j) : sProp 𝕄), lcr_bar]
  iintro ⟨Hb, -, Hr, -, -, Ha⟩
  isplitl [Hb]; · iexact Hb
  isplitl [Hr]
  · iapply (lcr_rcv (F := F) c) $$ Hr
  · iapply (lcr_arv (F := F) c) $$ Ha

end Cert.KernelIdeal.Pf

end
-- ==== Proof.KernelIdeal.Run.lean ====
/-
The kernel's run: the buffers, the body within the grid, the launch.
-/
module

public import proofs.«01_k».proof.Proof.KernelIdeal.Ghost
public import Idealize.ShloMosaic.Lib.Pipeline.CollectiveSegs
public import Idealize.ShloMosaic.Lib.Pipeline.ValueKit

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

/-! ## The buffers, cut up and put together -/

section Bufs
variable (c : Dev nD)

theorem whole_any (b : Ref sig .tc) : (iprop(∃ f : Buf (Elt F) ((c : Thread nD τ).loc b), ((c : Thread nD τ).loc b) ↦{fullShare} f) : sProp 𝕄)
    = anyo c (Memref.whole b) := by
  unfold anyo
  simp only [owns_whole]

theorem first8 {R : Type} [URA R] (Φ : Fin 8 → sProp R) : bigSep Finset.univ Φ = iprop(Φ 0 ∗ bigSep Finset.univ fun v : Fin 7 => Φ v.succ) := by
  rw [bigSep_f8, bigSep_f7]; try rfl

theorem scoped_eq : (Pipeline.scopedRest (Ix := Unit) (Name := ℕ) (U := UU) (Lvl := ℕ) (Val := Elt F) cfg0.spec c : sProp 𝕄)
    = iprop(anyo c xlM ∗ anyo c sgM ∗ anyo c rcM ∗ anyo c rlM ∗ anyo c wvM ∗ anyo c amM) := by
  refine (scopedRest0_eq c).trans ?_
  rw [whole_any c cc0_scratch0, whole_any c cc0_scratch1, whole_any c cc0_scratch2, whole_any c cc0_scratch3, whole_any c cc0_scratch4, whole_any c cc0_scratch5]

/-- The slots into which the partners send, offered to them. -/
theorem offers_in :
    iprop((bigSep Finset.univ fun t : Fin 5 => anyo c (slotM rlM t)) ∗ bigSep Finset.univ fun v : Fin 7 => anyo c (slotM rcM v.succ))
      ⊢ (bigSep Finset.univ fun j : Fin 3 => offer j c : sProp 𝕄) := by
  rw [bigSep_f5, bigSep_f7, bigSep_f3]
  show _ ⊢ iprop((anyo c (slotM rlM 0) ∗ anyo c (slotM rlM 3) ∗ anyo c (slotM rcM 5) ∗ anyo c (slotM rcM 1))
    ∗ (anyo c (slotM rlM 2) ∗ anyo c (slotM rcM 2) ∗ anyo c (slotM rlM 4) ∗ anyo c (slotM rcM 3))
    ∗ (anyo c (slotM rlM 1) ∗ anyo c (slotM rcM 7) ∗ anyo c (slotM rcM 4) ∗ anyo c (slotM rcM 6)))
  iintro ⟨⟨L0, L1, L2, L3, L4⟩, C1, C2, C3, C4, C5, C6, C7⟩
  iframe L0 L3 L2 L4 L1
  iframe C1 C2 C3 C4 C5 C6 C7

theorem bufs_in : (Pipeline.scopedRest (Ix := Unit) (Name := ℕ) (U := UU) (Lvl := ℕ) (Val := Elt F) cfg0.spec c : sProp 𝕄)
    ⊢ iprop((bigSep Finset.univ fun s : Fin 4 => xl s c) ∗ (bigSep Finset.univ fun s : Fin 8 => sg s c) ∗ (bigSep Finset.univ fun j : Fin 3 => offer j c)
      ∗ anyo c (slotM rcM 0) ∗ (bigSep Finset.univ fun v : Fin 8 => anyo c (wvblk (px v.val c))) ∗ myRows c) := by
  rw [scoped_eq]
  unfold xl sg myRows
  iintro ⟨Hx, Hs, Hr, Hl, Hw, Ha⟩
  ihave Hx := (slots c xlM).1 $$ Hx
  ihave Hs := (slots c sgM).1 $$ Hs
  ihave Hr := (slots c rcM).1 $$ Hr
  ihave Hl := (slots c rlM).1 $$ Hl
  ihave Hw := (wv_cut c).1 $$ Hw
  ihave Ha := (rows_cut c) $$ Ha
  ihave Hr := (Entails.of_eq (first8 (fun s : Fin 8 => (anyo c (slotM rcM s) : sProp 𝕄)))) $$ Hr
  icases Hr with ⟨Hr0, Hr⟩
  ihave Ho := (offers_in (F := F) c) $$ [Hl Hr]
  · iframe Hl Hr
  isplitl [Hx]; · iexact Hx
  isplitl [Hs]; · iexact Hs
  isplitl [Ho]; · iexact Ho
  isplitl [Hr0]; · iexact Hr0
  isplitl [Hw]; · iexact Hw
  iexact Ha

theorem wv_loose : (bigSep Finset.univ fun v : Fin 8 => wv m v.val c : sProp 𝕄) ⊢ bigSep Finset.univ fun v : Fin 8 => anyo c (wvblk (px v.val c)) :=
  bigSep_mono fun v _ => to_anyo c (wvblk (px v.val c)) (wraw m c (px v.val c))

theorem bufs_out :
    iprop((bigSep Finset.univ fun s : Fin 4 => xl s c) ∗ (bigSep Finset.univ fun s : Fin 8 => sg s c) ∗ (bigSep Finset.univ fun t : Fin 5 => anyo c (slotM rlM t))
      ∗ anyo c (slotM rcM 0) ∗ (bigSep Finset.univ fun v : Fin 7 => anyo c (slotM rcM v.succ))
      ∗ (bigSep Finset.univ fun v : Fin 8 => wv m v.val c) ∗ owns (c : Thread nD τ) amM fullShare (rows (lamOf m)))
      ⊢ (Pipeline.scopedRest (Ix := Unit) (Name := ℕ) (U := UU) (Lvl := ℕ) (Val := Elt F) cfg0.spec c : sProp 𝕄) := by
  rw [scoped_eq]
  unfold xl sg
  iintro ⟨Hx, Hs, Hl, Hr0, Hr, Hw, Ha⟩
  ihave Hx := (slots c xlM).2 $$ Hx
  ihave Hs := (slots c sgM).2 $$ Hs
  ihave Hl := (slots c rlM).2 $$ Hl
  ihave Hr := (Entails.of_eq (first8 (fun s : Fin 8 => (anyo c (slotM rcM s) : sProp 𝕄))).symm) $$ [Hr0 Hr]
  · isplitl [Hr0]
    · iexact Hr0
    · iexact Hr
  ihave Hr := (slots c rcM).2 $$ Hr
  ihave Hw := (wv_loose m c) $$ Hw
  ihave Hw := (wv_cut c).2 $$ Hw
  ihave Ha := (to_anyo c amM _) $$ Ha
  iframe Hx Hs Hr Hl Hw Ha

/-- The two arrays that the kernel reads. -/
def args : sProp 𝕄 :=
  iprop((((c : Thread nD τ).loc main_arg0) ↦{fullShare} m ((c : Thread nD τ).loc main_arg0)) ∗ (((c : Thread nD τ).loc main_arg1) ↦{fullShare} m ((c : Thread nD τ).loc main_arg1)))

theorem args_eq : (args m c : sProp 𝕄) = iprop(owns (c : Thread nD τ) xA fullShare (m ((c : Thread nD τ).loc main_arg0))
    ∗ owns (c : Thread nD τ) wA fullShare (m ((c : Thread nD τ).loc main_arg1))) := by
  unfold args
  rw [owns_whole, owns_whole]

theorem args_in : (args m c : sProp 𝕄) ⊢ iprop((bigSep Finset.univ fun v : Fin 8 => xh m v.val c) ∗ bigSep Finset.univ fun v : Fin 8 => wh m v.val c) := by
  rw [args_eq]; exact BI.sep_mono (x_cut m c).1 (w_cut m c).1
theorem args_out : iprop((bigSep Finset.univ fun v : Fin 8 => xh m v.val c) ∗ bigSep Finset.univ fun v : Fin 8 => wh m v.val c) ⊢ (args m c : sProp 𝕄) := by
  rw [args_eq]; exact BI.sep_mono (x_cut m c).2 (w_cut m c).2

end Bufs

/-! ## What a device's body starts from and ends with -/

section Ends
variable (c : Dev nD)

/-- A device's credit at the start. -/
def creds0 : sProp 𝕄 :=
  iprop(cred (tallyAt (kcell (c, .bar)) () 3) ∗ (bigSep Finset.univ fun i : Fin 12 => crd (c, .rcv i)) ∗ (bigSep Finset.univ fun e : Fin 7 => crd (c, .arv (rot (e.val + 1) c))))

/-- All that is the device's own. -/
def mine : sProp 𝕄 := iprop((bigSep Finset.univ fun k : Kk => pos (c, k)) ∗ linear c ∗ spare c ∗ creds0 c ∗ args m c)

def start : sProp 𝕄 := iprop(∃ K, ctx m (lamOf m) K ∗ mine m c)
def Φ₀ : sProp 𝕄 := iprop(start m c ∗ Pipeline.scopedRest cfg0.spec c)
def Φ₁ : sProp 𝕄 := iprop((unscopedSems0 c ∗ args m c) ∗ Pipeline.ownSems0 osem c ∗ Pipeline.scopedRest cfg0.spec c)

/-- What the body never touches. -/
def idle : sProp 𝕄 := iprop((bigSep Finset.univ fun t : Fin 2 => dz c (![frS 0, asS 0] t)) ∗ anyo c (slotM rcM 0))

theorem wds_turn : (bigSep Finset.univ fun s : Fin 8 => dz c (wdS s) : sProp 𝕄) = bigSep Finset.univ fun v : Fin 8 => dz c (wdS (px v.val c)) :=
  bigSep_univ_equiv (vE c) fun s : Fin 8 => (dz c (wdS s) : sProp 𝕄)

theorem pre_intro (X : S512x2048.Idx → Elt F .f32) :
    iprop(mine m c ∗ Pipeline.scopedRest cfg0.spec c ∗ Ob 0 c ∗ out c X) ⊢ iprop(Pre m c X ∗ pos (c, .arv c) ∗ idle c) := by
  unfold mine linear spare creds0
  iintro ⟨⟨Hpos, ⟨Tb, Ts, Tr, Ta, Tv⟩, ⟨Zx, Zw, Zi⟩, ⟨Cb, Cr, Ca⟩, Hargs⟩, Hbufs, Ho, Hout⟩
  ihave Hpos := (Entails.of_eq (bigSep_kk fun k => (pos (c, k) : sProp 𝕄))) $$ Hpos
  icases Hpos with ⟨Pb, Ps, Pr, Pa, Pv⟩
  ihave Pv := (Entails.of_eq (bigSep_after c fun j => (pos (c, .arv j) : sProp 𝕄))) $$ Pv
  icases Pv with ⟨Pc, Pv⟩
  ihave Hargs := (args_in m c) $$ Hargs
  icases Hargs with ⟨Hx, Hw⟩
  ihave Hbufs := (bufs_in (F := F) c) $$ Hbufs
  icases Hbufs with ⟨Bx, Bs, Bo, B0, Bw, Br⟩
  ihave Zw := (Entails.of_eq (wds_turn (F := F) c)) $$ Zw
  unfold Pre idle sendT wt amT wq
  simp only [bigSep_sep_eq]
  iframe Ho Cb Pb Hout
  iframe Tb Bo Hx
  iframe Bx Zx Bs
  iframe Hw Bw Zw
  iframe Ts Tr Ps
  iframe Cr Pr
  iframe Br
  iframe Ta Tv Pa
  iframe Ca Pv
  iframe Pc Zi B0

theorem post_elim : iprop(Post m c ∗ dn (.arv c) c ∗ idle c) ⊢ iprop(Ob 22 c ∗ out c (outv m c) ∗ Φ₁ m c) := by
  unfold Post idle wd Φ₁
  rw [unscopedSems0_eq, ownSems0_eq, bigSep_after c fun j => (dn (.arv j) c : sProp 𝕄)]
  unfold spare
  rw [wds_turn]
  simp only [bigSep_sep_eq]
  iintro ⟨⟨⟨Ho, Hout, Ham, Db⟩, Ds, Dr, Da, Dv, Hx, Bx, Zx, Bs, Bl, Bc, Bw, Hw, Zw⟩, Dc, Zi, B0⟩
  ihave Hargs := (args_out m c) $$ [Hx Hw]
  · iframe Hx Hw
  ihave Hb := (bufs_out m c) $$ [Bx Bs Bl B0 Bc Bw Ham]
  · iframe Bx Bs Bl B0 Bc Bw Ham
  iframe Ho Hout Db Hargs Hb
  iframe Ds Dr Da Dc Dv
  iframe Zx Zw Zi

end Ends

/-! ## The grid's data -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outv m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_stg (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

def bodyPre (c : Dev nD) : sProp 𝕄 :=
  iprop(Φ₀ m c ∗ (dats m ρ 0 c).owesAt () t0_0.castSucc ∗ (∃ d, owns (c : Thread nD τ) (stage0_0 0) fullShare ((dats m ρ 0 c).before (0 : Fin 1) t0_0 d)))
def bodyPost (c : Dev nD) : sProp 𝕄 :=
  iprop(Φ₁ m c ∗ (dats m ρ 0 c).owesAt () t0_0.succ ∗ owns (c : Thread nD τ) (stage0_0 0) fullShare ((dats m ρ 0 c).after (0 : Fin 1) t0_0))

theorem out_in (c : Dev nD) (X : S512x2048.Idx → Elt F .f32) :
    (owns (c : Thread nD τ) (stage0_0 0) fullShare X : sProp 𝕄) = out c X := rfl

theorem sound_body (c : Dev nD) : bodyPre m ρ c ⊢ WP c (bodyAt0 (F := F) t0_0) (fun _ => bodyPost m ρ c) := by
  unfold bodyPre Φ₀ start
  iintro ⟨⟨⟨%K, #Hc, Hm⟩, Hb⟩, Ho, ⟨%d, Hout⟩⟩
  unfold Dat.owesAt Pipeline.owesWithin
  icases Ho with ⟨%W, %hW, HO⟩
  ihave HOb := (show owes (c : Thread nD τ) ((dats m ρ 0 c).owed t0_0.castSucc) W ⊢ (Ob 0 c : sProp 𝕄) from by
    unfold Ob ow; iintro H; iexists W; iexact H) $$ HO
  ihave Hout := (Entails.of_eq (out_in c ((dats m ρ 0 c).before (0 : Fin 1) t0_0 d))) $$ Hout
  ihave Hp := (pre_intro m c ((dats m ρ 0 c).before (0 : Fin 1) t0_0 d)) $$ [Hm Hb HOb Hout]
  · iframe Hm Hb HOb Hout
  icases Hp with ⟨Hp, Hpos, Hi⟩
  unfold pos
  imod (Rounds.cell_close ER (Rd m (lamOf m)) (Set.mem_univ (K (c, .arv c))) (fun h => h) (R := 0) (g := kcell (c, .arv c)) (fun r _ => by
      rcases r with _ | r
      · rw [duties_k]; exact if_pos rfl
      · exact duties_later m (lamOf m) _ _ (Nat.succ_pos r))) $$ [Hpos] with Hz
  · isplitr; · iapply (ctx_inv m (lamOf m) K (c, .arv c)); iexact Hc
    iexact Hpos
  iapply (body_spec m K c ((dats m ρ 0 c).before (0 : Fin 1) t0_0 d)) $$ Hc Hp
  iintro Hp
  ihave Hp := (post_elim m c) $$ [Hp Hz Hi]
  · iframe Hp Hi
    unfold dn; iexact Hz
  icases Hp with ⟨HO, Hout, HΦ⟩
  unfold bodyPost Dat.owesAt Pipeline.owesWithin
  isplitl [HΦ]; · iexact HΦ
  isplitr [Hout]; rotate_left
  · iapply (Entails.of_eq (out_in c (outv m c)).symm) $$ Hout
  unfold Ob ow
  icases HO with ⟨%W', HO⟩
  iexists W'
  isplitr; · ipureintro; exact fun _ _ => Or.inl trivial
  iexact HO

set_option maxRecDepth 4000 in
theorem body_obligation (c : Dev nD) : BodyObligation (dats (F := F) m ρ 0 c) (defs₀ (F := F)) 𝒱₀ () Set.univ := fun t => by
  rw [fin_N0 t]
  rw [bigSep_W0, bigSep_W0]
  have hp : (defs₀ (F := F) Proc.tc cfg0.body (cfg0.bodyArgs t0_0 (cfg0.slots t0_0))) = bodyAt0 (F := F) t0_0 := rfl
  rw [hp]
  have ho : (cfg0.idle 0 (cfg0.grid.coords t0_0)) = false := rfl
  simp only [ho]
  have h := sound_body m ρ c
  unfold bodyPre bodyPost WP at h
  have e1 : (dats (F := F) m ρ 0 c).Φ t0_0.castSucc = Φ₀ m c := rfl
  have e2 : (dats (F := F) m ρ 0 c).Φ t0_0.succ = Φ₁ m c := rfl
  rw [e1, e2]
  revert h
  generalize bodyAt0 (F := F) t0_0 = B
  exact id

/-! ## The launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none]
  iintro ⟨Ha, Hlev, Hcr, -, HG⟩
  ihave Hc := (creds (F := F) c) $$ Hcr
  unfold G' records
  icases HG with ⟨%K, Hr, Hp, Hl, Hs⟩
  ihave Ha := (show (Pipeline.unscopedRest cfg0.spec c (fun b => m ((c : Thread nD τ).loc b)) : sProp 𝕄) ⊢ args m c from
    Entails.of_eq (unscopedRest0_eq c _)) $$ Ha
  imodintro
  isplitl
  · unfold start mine creds0 ctx
    iexists K
    icases Hr with ⟨Hr1, Hr2⟩
    isplitl [Hr1 Hr2 Hlev]
    · isplitl [Hr1]; · iexact Hr1
      isplitl [Hr2]; · iexact Hr2
      iexact Hlev
    iframe Hp Hl Hs Hc Ha
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs] <;> iassumption

theorem phi1_exit (c : Dev nD) :
    (dats m ρ 0 c).Φ (Fin.last cfg0.N) ⊢ iprop((unscopedSems0 c ∗ args m c) ∗ Pipeline.ownSems0 osem c ∗ Pipeline.scopedRest cfg0.spec c) :=
  Entails.of_eq (show (dats m ρ 0 c).Φ (Fin.last cfg0.N) = Φ₁ m c from rfl)

theorem stg_none : ∀ w : Fin 1, ∀ s, kOf (.dma ((cfg0.win w).sem s)) = none := by
  intro w s
  exact kOf_none (by fin_cases w; fin_cases s; decide +kernel)

theorem waits (c : Dev nD) : (levAts L lv : sProp 𝕄) ⊢ Pipeline.cellsWaits cfgs (dats m ρ) () 0 c :=
  Pipeline.cellsWaits_intro cfgs (dats m ρ) () 0 c fun w s t => by
    have h0 : lv ((c : Thread nD τ), .dma ((cfg0.win w).sem s)) () = 0 := by unfold lv; rw [stg_none w s]; rfl
    rcases t with ⟨_ | _, ht⟩
    · exact mayWait_list c _ 0 h0 (oblig c) (by decide +revert)
    · exact mayWait_list c _ 0 h0 [] rfl

/-- What is read of the final memory, on one device. -/
def QY (c : Dev nD) (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0)
    ∧ s.mem ((c : Thread nD τ).loc main_arg1) = m ((c : Thread nD τ).loc main_arg1)

theorem read_end (c : Dev nD) (s' : Phys nD τ sig (Elt F)) :
    iprop((unscopedSems0 c ∗ args m c) ∗ emp ∗ SI s') ⊢ (|={Set.univ}=> iprop(⌜QY m c s'.mem⌝ ∗ SI s') : sProp 𝕄) := by
  unfold args
  iintro ⟨⟨Hu, H0, H1⟩, -, HSI⟩
  ihave %h0 := (SI_pointsTo_agree) $$ [H0 HSI]
  · isplitl [HSI] <;> iassumption
  ihave %h1 := (SI_pointsTo_agree) $$ [H1 HSI]
  · isplitl [HSI] <;> iassumption
  imod (Pipeline.unscopedSems0_read (X := unscopedSems0 c) (c := c) fupd_intro s') $$ [Hu HSI] with ⟨%h, HSI⟩
  · isplitl [Hu] <;> iassumption
  imodintro
  isplitr
  · ipureintro
    exact ⟨h, funext fun i => h0 i (Finset.mem_univ i), funext fun i => h1 i (Finset.mem_univ i)⟩
  iexact HSI

def QC : PUnit × MemSt nD τ sig (Elt F) → Prop := fun r =>
  ∀ c : Dev nD, (∀ w : Fin cfg0.W, r.2.mem ((cfg0.win w).arr.view.loc (c : Thread nD τ)) = (dats m ρ 0 c).arrAt w cfg0.N) ∧ QY m c r.2

set_option maxRecDepth 8000 in
/-- Every weakly fair execution of the eight devices ends, with the arguments unchanged and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w; exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      ihave HX := (own_pair_emb _ _ _) $$ HX
      icases HX with ⟨HX, -⟩
      imod (fund_ring m) $$ [HX] with HG
      · iexact HX
      imodintro
      isplitl [HP] <;> iassumption)
    (hglob := glob m)
    (hA := fun _ _ => rfl) (hpf := fun _ k => k.elim0)
    (X := start m) (Y := fun c => iprop(unscopedSems0 c ∗ args m c)) (Z := fun _ => iprop(emp))
    (hX := start_intro m ρ) (hin := phi0_intro m ρ) (hout := phi1_exit m ρ)
    (QY := QY m) (hY := read_end m)
    (hQ := fun _ h hs => ⟨fun c => ⟨(h c).1, (h c).2.2⟩, sem_eq_zero hs fun c => (h c).2.2.1⟩)

/-- The result array ends at what the body leaves in its window. -/
theorem result_eq (c : Dev nD) : (dats m ρ 0 c).arrAt (0 : Fin 1) cfg0.N = outv m c :=
  (dats m ρ 0 c).arrAt_eq_of_after_last (0 : Fin 1) t0_0 (by decide +kernel) (outv m c) (fun j => rfl)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => (h.1 c).2.2, h.2⟩) (run_main m ρ)

/-- The value: each device's result is `outv` of it, and the arguments end unchanged. -/
theorem value : θ_run defs (onTc (τ := τ) (main (F := F))) ⟨m, fun _ => 0, ρ⟩ (fun r => ∀ c : Dev nD,
      r.2.mem ((c.tc : Thread nD τ).loc main_v1) = outv m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h.1 c).1 (0 : Fin 1)).trans (result_eq m ρ c), (h.1 c).2.2⟩) (run_main m ρ)

end Cert.KernelIdeal.Pf

end
-- ==== Proof.KernelIdeal.Quant.lean ====
/-
  Facts about the extended reals that the quantiser needs: what its constants denote, the greatest of all entries of an
  array as the least upper bound of them, and that a bound at plus and minus 448 does nothing to entries that have
  already been divided by their greatest magnitude over 448.
-/
module

public import Idealize.ShloMosaic.Lib.ValueIdx
public import Idealize.ShloMosaic.Lib.ValueIdxCore
public import Idealize.ShloMosaic.PureOps.Ideal.Laws

@[expose] public section

noncomputable section

namespace Cert.Quant

open Idealize.ShloMosaic Idealize.ShloMosaic.ValueIdx

/-! ## The constants -/

theorem bits_448 : Ideal.ofBits .f32 0x43E00000#32 = ((448 : ℝ) : EReal) := by
  simp [Ideal.ofBits, Ideal.ieee]
  norm_num
  rw [← EReal.coe_mul]
  norm_num
theorem bits_neg448 : Ideal.ofBits .f32 0xC3E00000#32 = ((-448 : ℝ) : EReal) := by
  simp [Ideal.ofBits, Ideal.ieee]
  norm_num
  rw [← EReal.coe_mul]
  norm_num
theorem bits_ninf : Ideal.ofBits .f32 0xFF800000#32 = (⊥ : EReal) := by
  simp [Ideal.ofBits, Ideal.ieee]

/-! ## The bound -/

/-- The bounded quotient at a finite positive scale is the quotient. -/
theorem clip_real (y a : ℝ) (ha : 0 < a) (h1 : y ≤ a) (h2 : -y ≤ a) :
    min (448 : ℝ) (max (-448) (y * (a * 448⁻¹)⁻¹)) = y * (a * 448⁻¹)⁻¹ := by
  have e : y * (a * 448⁻¹)⁻¹ = 448 * y / a := by field_simp
  rw [e]
  have u : 448 * y / a ≤ 448 := by rw [div_le_iff₀ ha]; linarith
  have l : -448 ≤ 448 * y / a := by rw [le_div_iff₀ ha]; linarith
  rw [max_eq_right l, min_eq_right u]

/-- Bounding the quotient changes nothing once it is multiplied by the scale again. -/
theorem clip_mul (y a : EReal) (h1 : y ≤ a) (h2 : -y ≤ a) :
    min ((448 : ℝ) : EReal) (max ((-448 : ℝ) : EReal) (Ideal.div y (Ideal.div a ((448 : ℝ) : EReal)))) * Ideal.div a ((448 : ℝ) : EReal)
      = Ideal.div y (Ideal.div a ((448 : ℝ) : EReal)) * Ideal.div a ((448 : ℝ) : EReal) := by
  have h448 : ((448 : ℝ) : EReal) ≠ 0 := by
    intro h; exact absurd (EReal.coe_eq_zero.mp h) (by norm_num)
  have hs : Ideal.div a ((448 : ℝ) : EReal) = a * ((448⁻¹ : ℝ) : EReal) := by
    unfold Ideal.div; rw [if_neg h448, ← EReal.coe_inv]
  rw [hs]
  have hpos : ((448⁻¹ : ℝ) : EReal) > 0 := EReal.coe_pos.mpr (by norm_num)
  induction a with
  | bot =>
    have e1 : y = ⊥ := le_bot_iff.mp h1
    rw [e1, EReal.neg_bot] at h2
    exact absurd h2 (by simp)
  | top =>
    rw [EReal.top_mul_of_pos hpos]
    unfold Ideal.div
    rw [if_neg EReal.top_ne_zero, EReal.inv_top, mul_zero]
    rw [max_eq_right (EReal.coe_nonpos.mpr (by norm_num)), min_eq_right (EReal.coe_nonneg.mpr (by norm_num))]
  | coe a =>
    have hy1 : y ≠ ⊤ := fun h => by rw [h] at h1; exact absurd h1 (by simp)
    have hy2 : y ≠ ⊥ := fun h => by rw [h, EReal.neg_bot] at h2; exact absurd h2 (by simp)
    lift y to ℝ using ⟨hy1, hy2⟩
    have g1 : y ≤ a := EReal.coe_le_coe_iff.mp h1
    have g2 : -y ≤ a := by rw [← EReal.coe_neg] at h2; exact EReal.coe_le_coe_iff.mp h2
    rw [← EReal.coe_mul]
    by_cases ha : a = 0
    · rw [ha, zero_mul, EReal.coe_zero, mul_zero, mul_zero]
    · have ap : 0 < a := lt_of_le_of_ne (by linarith) (Ne.symm ha)
      have sp : (0 : ℝ) < a * 448⁻¹ := by positivity
      have s0 : ((a * 448⁻¹ : ℝ) : EReal) ≠ 0 := fun h => sp.ne' (EReal.coe_eq_zero.mp h)
      unfold Ideal.div
      rw [if_neg s0, ← EReal.coe_inv, ← EReal.coe_mul]
      congr 1
      have mono : Monotone ((↑) : ℝ → EReal) := EReal.coe_strictMono.monotone
      rw [← mono.map_max, ← mono.map_min, clip_real y a ap g1 g2]

/-! ## The greatest entry -/

/-- The greatest of all entries lies below a number just when every entry does. -/
theorem top_le {s t : Shape} {axes : List (Fin s.rank)} (x : FVec Ideal s .f32) (h : s.Reduces axes t) (ht : ∀ b, t.size b = 1)
    (hφ : FKind.Formats .f32) (hacc : (0xFF800000#32 : BitVec 32) = FKind.maximumf.neutral .f32 hφ) (j : t.Idx) (b : EReal) :
    multiReduction .maximumf axes t x 0xFF800000#32 h hφ hacc j ≤ b ↔ ∀ i, x i ≤ b := by
  have e : multiReduction .maximumf axes t x 0xFF800000#32 h hφ hacc j
      = (Finset.univ.filter fun i => h.drop i = j).fold (max : EReal → EReal → EReal) ⊥ x := by
    rw [← bits_ninf]
    exact reduceFold_eq_fold h (max : EReal → EReal → EReal) _ x j
  rw [e, Finset.fold_max_le]
  have hd : ∀ i, h.drop i = j := fun i => funext fun b => Fin.ext (by
    have := (h.drop i b).isLt; have := (j b).isLt; have := ht b; omega)
  simp [hd]

/-- The same of the entry taken out of the array of one that a reduction leaves. -/
theorem top1_le {s : Shape} {axes : List (Fin s.rank)} (x : FVec Ideal s .f32) (h : s.Reduces axes ⟨1, ![1]⟩)
    (hφ : FKind.Formats .f32) (hacc : (0xFF800000#32 : BitVec 32) = FKind.maximumf.neutral .f32 hφ)
    (hc : (⟨1, ![1]⟩ : Shape).ShapeCasts ⟨3, ![1, 1, 1]⟩) (hp : ∀ a, (![0, 0, 0] : Fin 3 → ℕ) a < (⟨3, ![1, 1, 1]⟩ : Shape).size a) (b : EReal) :
    (extractAt ![0, 0, 0] (shapeCast ⟨3, ![1, 1, 1]⟩ (multiReduction .maximumf axes ⟨1, ![1]⟩ x 0xFF800000#32 h hφ hacc) hc) hp : EReal) ≤ b
      ↔ ∀ i, x i ≤ b :=
  top_le x h (by decide) hφ hacc _ b

/-- A number spread over an array is that number in every layout of it. -/
theorem cast_broadcast {s t : Shape} {α : Type} (x : α) (h : s.ShapeCasts t) (i : t.Idx) : shapeCast t (broadcast s x) h i = x := rfl

/-- Every entry of an array is below a number just when every entry of it in another layout is. -/
theorem cast_le {s t : Shape} (x : s.Idx → EReal) (h : s.ShapeCasts t) (b : EReal) : (∀ i, shapeCast t x h i ≤ b) ↔ ∀ i, x i ≤ b :=
  ⟨fun g i => by simpa [shapeCast] using g ((Shape.reshapeEquiv h).symm i), fun g i => g _⟩

end Cert.Quant

end
-- ==== Proof.KernelIdeal.Entries.lean ====
/-
What the kernel leaves in its result, entry by entry, when numbers are exact: its rows of the whole product, divided by
the scale and multiplied by it again, and the scale's numerator as the least bound of all magnitudes.
-/
module

public import proofs.«01_k».proof.Proof.KernelIdeal.Run
public import proofs.«01_k».proof.Proof.KernelIdeal.Quant

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
open Idealize.ShloMosaic.ValueIdx

variable (m : (ℓ : Loc nD τ sig) → Buf (Elt Ideal) ℓ)

/-! ## One product, entry by entry -/

theorem mm_lhs (j : S512x2048.Idx) (k : dot_S512x512_S512x2048_S512x2048_1_0_0_1_n_n.contr.Idx) :
    dot_S512x512_S512x2048_S512x2048_1_0_0_1_n_n.lhsIdx j k
      = ValueIdx.ix2 (j 0) (contrEquiv1 dot_S512x512_S512x2048_S512x2048_1_0_0_1_n_n 512 rfl rfl k) := by
  funext a
  apply Fin.ext
  match a with
  | ⟨0, _⟩ => simp [DotDims.lhsIdx, dot_S512x512_S512x2048_S512x2048_1_0_0_1_n_n]; rfl
  | ⟨1, _⟩ => simp [DotDims.lhsIdx, dot_S512x512_S512x2048_S512x2048_1_0_0_1_n_n]; rfl

theorem mm_rhs (j : S512x2048.Idx) (k : dot_S512x512_S512x2048_S512x2048_1_0_0_1_n_n.contr.Idx) :
    dot_S512x512_S512x2048_S512x2048_1_0_0_1_n_n.rhsIdx j k
      = ValueIdx.ix2 (contrEquiv1 dot_S512x512_S512x2048_S512x2048_1_0_0_1_n_n 512 rfl rfl k) (j 1) := by
  funext a
  apply Fin.ext
  match a with
  | ⟨0, _⟩ => simp [DotDims.rhsIdx, dot_S512x512_S512x2048_S512x2048_1_0_0_1_n_n]; rfl
  | ⟨1, _⟩ => simp [DotDims.rhsIdx, dot_S512x512_S512x2048_S512x2048_1_0_0_1_n_n]; rfl

/-- An entry of the product of two blocks. -/
theorem mm_apply (X : S512x512.Idx → Elt Ideal .bf16) (W : S512x2048.Idx → Elt Ideal .f32) (j : S512x2048.Idx) :
    mm (F := Ideal) X W j = ∑ k : Fin 512, (X (ValueIdx.ix2 (j 0) k) : EReal) * W (ValueIdx.ix2 k (j 1)) := by
  unfold mm
  refine (Ideal.matmul_constant_zero_apply (φ₁ := .bf16) (φ₂ := .f32) dot_S512x512_S512x2048_S512x2048_1_0_0_1_n_n none X W j).trans ?_
  rw [← Equiv.sum_comp (contrEquiv1 dot_S512x512_S512x2048_S512x2048_1_0_0_1_n_n 512 rfl rfl)]
  exact Finset.sum_congr rfl fun k _ => by rw [mm_lhs, mm_rhs]; rfl

/-! ## The whole product -/

/-- An entry of the product of the whole matrices. -/
def prodAt (X : (⟨2, ![4096, 4096]⟩ : Shape).Idx → EReal) (W : (⟨2, ![4096, 2048]⟩ : Shape).Idx → EReal)
    (i : (⟨2, ![4096, 2048]⟩ : Shape).Idx) : EReal :=
  ∑ k : Fin 4096, X (ValueIdx.ix2 (i 0) k) * W (ValueIdx.ix2 k (i 1))

/-- Number `k` of device `e`'s 512, among the 4096. -/
def at8 (e : Fin 8) (k : Fin 512) : Fin 4096 := ⟨512 * e.val + k.val, by omega⟩

/-- A sum over 4096 numbers, device by device. -/
theorem sum_at8 (f : Fin 4096 → EReal) : ∑ k, f k = ∑ e : Fin 8, ∑ k : Fin 512, f (at8 e k) := by
  rw [← Equiv.sum_comp (finProdFinEquiv (m := 8) (n := 512)) f, Fintype.sum_prod_type]
  refine Finset.sum_congr rfl fun e _ => Finset.sum_congr rfl fun k _ => congrArg f (Fin.ext ?_)
  show k.val + 512 * e.val = 512 * e.val + k.val
  omega

/-- What the product over device `e`'s numbers adds to row `r` of device `c`'s rows. -/
def part8 (X : (⟨2, ![4096, 4096]⟩ : Shape).Idx → EReal) (W : (⟨2, ![4096, 2048]⟩ : Shape).Idx → EReal)
    (c : Dev nD) (j : S512x2048.Idx) (e : Fin 8) : EReal :=
  ∑ k : Fin 512, X (ValueIdx.ix2 (at8 c (j 0)) (at8 e k)) * W (ValueIdx.ix2 (at8 e k) (j 1))

/-- The place of a device's entry in the whole result. -/
def place (c : Dev nD) (j : S512x2048.Idx) : (⟨2, ![4096, 2048]⟩ : Shape).Idx := ValueIdx.ix2 (at8 c (j 0)) (j 1)

/-- The left matrix falls into eight blocks of columns. -/
theorem cols8 : Layout.Tiles ⟨2, ![4096, 512]⟩ ⟨2, ![4096, 4096]⟩ 1 8 := by decide
/-- The result falls into eight blocks of rows. -/
theorem rows8 : Layout.Tiles ⟨2, ![512, 2048]⟩ ⟨2, ![4096, 2048]⟩ 0 8 := by decide

section Whole

variable (X : (⟨2, ![4096, 4096]⟩ : Shape).Idx → EReal) (W : (⟨2, ![4096, 2048]⟩ : Shape).Idx → EReal)
variable (hX : ∀ c : Dev nD, m ((c.tc : Thread nD τ).loc main_arg0) = Layout.block ⟨2, ![4096, 512]⟩ ⟨2, ![4096, 4096]⟩ 1 8 c X cols8)
variable (hW : ∀ c : Dev nD, m ((c.tc : Thread nD τ).loc main_arg1) = W)

include hX in
theorem gb_at (v : ℕ) (c : Dev nD) (r k : Fin 512) : (gb m v c (ValueIdx.ix2 r k) : EReal) = X (ValueIdx.ix2 (at8 c r) (at8 (px v c) k)) := by
  show (m (((px v c : Dev nD).tc : Thread nD τ).loc main_arg0)) ((xR c).emb (ValueIdx.ix2 r k)) = _
  rw [hX]
  show X _ = X _
  congr 1
  funext a
  apply Fin.ext
  match a with
  | ⟨0, _⟩ =>
    show 512 * c.val + 1 * r.val = 512 * c.val + r.val
    omega
  | ⟨1, _⟩ =>
    show (px v c).val * 512 + (0 + 1 * k.val) = 512 * (px v c).val + k.val
    omega

include hW in
theorem wraw_at (c e : Dev nD) (k : Fin 512) (l : Fin 2048) : (wraw m c e (ValueIdx.ix2 k l) : EReal) = W (ValueIdx.ix2 (at8 e k) l) := by
  show (m ((c.tc : Thread nD τ).loc main_arg1)) ((wR e).emb (ValueIdx.ix2 k l)) = _
  rw [hW]
  congr 1
  funext a
  apply Fin.ext
  match a with
  | ⟨0, _⟩ =>
    show 512 * e.val + 1 * k.val = 512 * e.val + k.val
    omega
  | ⟨1, _⟩ =>
    show 0 + 1 * l.val = l.val
    omega

include hX hW in
theorem mm_at (v : ℕ) (c : Dev nD) (j : S512x2048.Idx) :
    (mm (F := Ideal) (gb m v c) (wraw m c (px v c)) j : EReal) = part8 X W c j (px v c) := by
  rw [mm_apply]
  exact Finset.sum_congr rfl fun k _ => congrArg₂ (fun a b : EReal => a * b) (gb_at m X hX v c (j 0) k) (wraw_at m W hW c (px v c) k (j 1))

include hX hW in
/-- What a device adds up is its rows of the whole product. -/
theorem Acc_at (c : Dev nD) (j : S512x2048.Idx) : (Acc m c j : EReal) = prodAt X W (place c j) := by
  have h : prodAt X W (place c j) = ∑ v : Fin 8, part8 X W c j (px v.val c) := by
    refine Eq.trans ?_ (Equiv.sum_comp (vE c) (part8 X W c j)).symm
    exact sum_at8 _
  rw [h, Fin.sum_univ_eight]
  have ad : ∀ (v : ℕ) (l : List ℕ), (acc m c (v :: l) j : EReal) = acc m c l j + part8 X W c j (px v c) := fun v l => by
    show (acc m c l j : EReal) + mm (F := Ideal) (gb m v c) (wraw m c (px v c)) j = _
    rw [mm_at m X W hX hW]
  have nl : (acc m c [] j : EReal) = part8 X W c j (px 0 c) := mm_at m X W hX hW 0 c j
  unfold Acc
  rw [ad, ad, ad, ad, ad, ad, ad, nl]
  show _ = part8 X W c j (px 0 c) + part8 X W c j (px 1 c) + part8 X W c j (px 2 c) + part8 X W c j (px 3 c)
    + part8 X W c j (px 4 c) + part8 X W c j (px 5 c) + part8 X W c j (px 6 c) + part8 X W c j (px 7 c)
  ac_rfl

end Whole

/-! ## The greatest magnitude -/

/-- The greatest magnitude of an array's entries. -/
def mag (Y : S512x2048.Idx → Elt Ideal .f32) : EReal :=
  extractAt ![0, 0, 0] (shapeCast S1x1x1 (multiReduction (F := Ideal) (φ := .f32) .maximumf [1, 2] S1
    (shapeCast S1x512x2048 (absf (F := Ideal) (φ := .f32) (shapeCast S512x2048 Y shapeCasts_S512x2048_S512x2048)) shapeCasts_S512x2048_S1x512x2048)
    0xFF800000#32 reduces_S1x512x2048_S1 (.inl rfl) rfl) shapeCasts_S1_S1x1x1) inpos_S1x1x1_p0_0_0

theorem pay23_at (Y : S512x2048.Idx → Elt Ideal .f32) (i : S1x128.Idx) : (k0_pay23 (F := Ideal) Y i : EReal) = mag Y := by
  unfold k0_pay23 mag
  exact Cert.Quant.cast_broadcast _ _ _

theorem mag_le (Y : S512x2048.Idx → Elt Ideal .f32) (b : EReal) : mag Y ≤ b ↔ ∀ j, max (Y j : EReal) (-(Y j)) ≤ b := by
  unfold mag
  rw [shapeCast_self]
  refine (Cert.Quant.top1_le _ reduces_S1x512x2048_S1 _ _ _ _ b).trans ?_
  exact Cert.Quant.cast_le _ _ b

theorem lamOf_at (c : Dev nD) (i : S128.Idx) : (lamOf m c i : EReal) = mag (Acc m c) := by
  unfold lamOf shapeCast
  exact pay23_at _ _

/-- A device's greatest magnitude lies below a number just when the magnitudes of all its entries do. -/
theorem lamOf_le (c : Dev nD) (i : S128.Idx) (b : EReal) : (lamOf m c i : EReal) ≤ b ↔ ∀ j, max (Acc m c j : EReal) (-(Acc m c j)) ≤ b := by
  rw [lamOf_at]
  exact mag_le _ b

/-- The greatest of all devices' magnitudes. -/
def peak : EReal :=
  extractAt ![0, 0, 0] (shapeCast S1x1x1 (multiReduction (F := Ideal) (φ := .f32) .maximumf [1, 2] S1
    (shapeCast S1x8x128 (rows (lamOf m)) shapeCasts_S8x128_S1x8x128) 0xFF800000#32 reduces_S1x8x128_S1 (.inl rfl) rfl) shapeCasts_S1_S1x1x1) inpos_S1x1x1_p0_0_0

theorem pay24_peak : (k0_pay24 (F := Ideal) (rows (lamOf m)) : EReal) = Ideal.div (peak m) (Ideal.ofBits .f32 0x43E00000#32) := rfl

theorem rows_at (L : Dev nD → S128.Idx → Elt Ideal .f32) (i : S8x128.Idx) : ∃ k : S128.Idx, rows (F := Ideal) L i = L ⟨(i 0).val, (i 0).isLt⟩ k := ⟨_, rfl⟩

theorem peak_le (b : EReal) : peak m ≤ b ↔ ∀ (c : Dev nD) j, max (Acc m c j : EReal) (-(Acc m c j)) ≤ b := by
  unfold peak
  refine (Cert.Quant.top1_le _ reduces_S1x8x128_S1 _ _ _ _ b).trans ?_
  rw [Cert.Quant.cast_le]
  constructor
  · intro h c
    obtain ⟨k, hk⟩ := rows_at (lamOf m) (ValueIdx.ix2 ⟨c.val, c.isLt⟩ 0)
    refine (lamOf_le m c k b).mp ?_
    have := h (ValueIdx.ix2 ⟨c.val, c.isLt⟩ 0)
    rw [hk] at this
    exact this
  · intro h i
    obtain ⟨k, hk⟩ := rows_at (lamOf m) i
    rw [hk]
    exact (lamOf_le m _ k b).mpr (h _)

/-- The result: each entry divided by the scale and multiplied by it again. -/
theorem outv_at (c : Dev nD) (j : S512x2048.Idx) : (outv m c j : EReal)
    = Ideal.div (Acc m c j) (Ideal.div (peak m) (Ideal.ofBits .f32 0x43E00000#32)) * Ideal.div (peak m) (Ideal.ofBits .f32 0x43E00000#32) := by
  unfold outv
  rw [← pay24_peak]
  generalize k0_pay24 (F := Ideal) (rows (lamOf m)) = S
  unfold k0_pay1
  rw [shapeCast_self]
  rfl

end Cert.KernelIdeal.Pf

end
-- ==== Proof.KernelIdeal.Whole.lean ====
/-
  What the reference leaves in its result, entry by entry, when numbers are exact, and that the kernel's blocks are the
  blocks of it.
-/
module

public import proofs.«01_k».proof.Defs
public import proofs.«01_k».proof.Proof.KernelIdeal.Entries
public import proofs.«01_k».proof.Proof.Gen.ReferenceIdeal.Value

@[expose] public section

noncomputable section

namespace Cert.Whole

open Cert.ReferenceIdeal Cert.ReferenceIdeal.Gen Idealize.ShloMosaic Idealize.ShloMosaic.TcCoe Idealize.ShloMosaic.ValueIdx Idealize.SL.Sem
open Cert.KernelIdeal.Pf (prodAt at8 place cols8 rows8 peak peak_le Acc_at outv_at outv)

/-! ## The reference's product -/

theorem dot_lhs (j : S4096x2048.Idx) (k : dot_S4096x4096_S4096x2048_S4096x2048_1_0_0_1_n_n.contr.Idx) :
    dot_S4096x4096_S4096x2048_S4096x2048_1_0_0_1_n_n.lhsIdx j k
      = ValueIdx.ix2 (j 0) (contrEquiv1 dot_S4096x4096_S4096x2048_S4096x2048_1_0_0_1_n_n 4096 rfl rfl k) := by
  funext a
  apply Fin.ext
  match a with
  | ⟨0, _⟩ => simp [DotDims.lhsIdx, dot_S4096x4096_S4096x2048_S4096x2048_1_0_0_1_n_n]; rfl
  | ⟨1, _⟩ => simp [DotDims.lhsIdx, dot_S4096x4096_S4096x2048_S4096x2048_1_0_0_1_n_n]; rfl

theorem dot_rhs (j : S4096x2048.Idx) (k : dot_S4096x4096_S4096x2048_S4096x2048_1_0_0_1_n_n.contr.Idx) :
    dot_S4096x4096_S4096x2048_S4096x2048_1_0_0_1_n_n.rhsIdx j k
      = ValueIdx.ix2 (contrEquiv1 dot_S4096x4096_S4096x2048_S4096x2048_1_0_0_1_n_n 4096 rfl rfl k) (j 1) := by
  funext a
  apply Fin.ext
  match a with
  | ⟨0, _⟩ => simp [DotDims.rhsIdx, dot_S4096x4096_S4096x2048_S4096x2048_1_0_0_1_n_n]; rfl
  | ⟨1, _⟩ => simp [DotDims.rhsIdx, dot_S4096x4096_S4096x2048_S4096x2048_1_0_0_1_n_n]; rfl

variable (X : S4096x4096.Idx → EReal) (W : S4096x2048.Idx → EReal)

/-- The reference's product, -/
def dotW : S4096x2048.Idx → EReal :=
  matmul (F := Ideal) (φ₁ := .f32) (φ₂ := .f32) dot_S4096x4096_S4096x2048_S4096x2048_1_0_0_1_n_n none X W (constant S4096x2048 .f32 0x00000000#32)

theorem dotW_at (j : S4096x2048.Idx) : dotW X W j = prodAt X W j := by
  refine (Ideal.matmul_constant_zero_apply (φ₁ := .f32) (φ₂ := .f32) dot_S4096x4096_S4096x2048_S4096x2048_1_0_0_1_n_n none X W j).trans ?_
  unfold prodAt
  rw [← Equiv.sum_comp (contrEquiv1 dot_S4096x4096_S4096x2048_S4096x2048_1_0_0_1_n_n 4096 rfl rfl)]
  exact Finset.sum_congr rfl fun k _ => by rw [dot_lhs, dot_rhs]; rfl

/-- its greatest magnitude, -/
def topW : EReal :=
  extractAt ![0, 0, 0] (shapeCast S1x1x1 (multiReduction (F := Ideal) (φ := .f32) .maximumf [1, 2] S1
    (shapeCast S1x4096x2048 (absf (F := Ideal) (φ := .f32) (dotW X W)) shapeCasts_S4096x2048_S1x4096x2048) 0xFF800000#32 reduces_S1x4096x2048_S1 (.inl rfl) rfl)
    shapeCasts_S1_S1x1x1) inpos_S1x1x1_p0_0_0

theorem topW_le (b : EReal) : topW X W ≤ b ↔ ∀ i, max (prodAt X W i) (-(prodAt X W i)) ≤ b := by
  unfold topW
  refine (Cert.Quant.top1_le _ reduces_S1x4096x2048_S1 _ _ _ _ b).trans ?_
  rw [Cert.Quant.cast_le]
  refine forall_congr' fun i => ?_
  show max (dotW X W i) (-(dotW X W i)) ≤ b ↔ _
  rw [dotW_at]

/-- and its result: the bounded quotient times the scale. -/
theorem ref_at (i : S4096x2048.Idx) : (k0_pay1 (F := Ideal) X W i : EReal)
    = min (Ideal.ofBits .f32 0x43E00000#32) (max (Ideal.ofBits .f32 0xC3E00000#32)
        (Ideal.div (dotW X W i) (Ideal.div (topW X W) (Ideal.ofBits .f32 0x43E00000#32)))) * Ideal.div (topW X W) (Ideal.ofBits .f32 0x43E00000#32) := rfl

/-- The bound does nothing. -/
theorem ref_at' (i : S4096x2048.Idx) : (k0_pay1 (F := Ideal) X W i : EReal)
    = Ideal.div (prodAt X W i) (Ideal.div (topW X W) (Ideal.ofBits .f32 0x43E00000#32)) * Ideal.div (topW X W) (Ideal.ofBits .f32 0x43E00000#32) := by
  have h := (topW_le X W (topW X W)).mp le_rfl i
  rw [ref_at, dotW_at, Cert.Quant.bits_448, Cert.Quant.bits_neg448]
  exact Cert.Quant.clip_mul _ _ ((le_max_left _ _).trans h) ((le_max_right _ _).trans h)

/-! ## The kernel's blocks -/

section Blocks

variable (m : (ℓ : Loc Cert.KernelIdeal.nD Cert.KernelIdeal.τ Cert.KernelIdeal.sig) → Buf (Elt Ideal) ℓ)
variable (hX : ∀ c : Dev Cert.KernelIdeal.nD, m ((c.tc : Thread Cert.KernelIdeal.nD Cert.KernelIdeal.τ).loc Cert.KernelIdeal.main_arg0)
  = Layout.block ⟨2, ![4096, 512]⟩ ⟨2, ![4096, 4096]⟩ 1 8 c X cols8)
variable (hW : ∀ c : Dev Cert.KernelIdeal.nD, m ((c.tc : Thread Cert.KernelIdeal.nD Cert.KernelIdeal.τ).loc Cert.KernelIdeal.main_arg1) = W)

/-- Every row is some device's. -/
theorem row_split (i : S4096x2048.Idx) : ∃ (c : Dev Cert.KernelIdeal.nD) (j : Cert.KernelIdeal.S512x2048.Idx), i = place c j := by
  have h0 : (i 0).val < 4096 := idx2_lt0 i
  refine ⟨⟨(i 0).val / 512, by show (i 0).val / 512 < 8; omega⟩, ValueIdx.ix2 ⟨(i 0).val % 512, Nat.mod_lt _ (by decide)⟩ (i 1), ?_⟩
  funext a
  apply Fin.ext
  match a with
  | ⟨0, _⟩ =>
    show (i 0).val = 512 * ((i 0).val / 512) + (i 0).val % 512
    omega
  | ⟨1, _⟩ => rfl

include hX hW in
theorem peak_eq : peak m = topW X W := by
  refine eq_of_forall_ge_iff fun b => ?_
  rw [peak_le, topW_le]
  constructor
  · intro h i
    obtain ⟨c, j, rfl⟩ := row_split i
    rw [← Acc_at m X W hX hW c j]
    exact h c j
  · intro h c j
    rw [Acc_at m X W hX hW c j]
    exact h _

include hX hW in
theorem outv_block (c : Dev Cert.KernelIdeal.nD) :
    outv m c = Layout.block ⟨2, ![512, 2048]⟩ ⟨2, ![4096, 2048]⟩ 0 8 c (k0_pay1 (F := Ideal) X W) rows8 := by
  funext j
  rw [Layout.block_apply]
  have e : rows8.idx c j = place c j := by
    funext a
    apply Fin.ext
    match a with
    | ⟨0, _⟩ =>
      show c.val * 512 + (j 0).val = 512 * c.val + (j 0).val
      omega
    | ⟨1, _⟩ => rfl
  refine (outv_at m c j).trans (Eq.trans ?_ ((congrArg (k0_pay1 (F := Ideal) X W) e).trans (ref_at' X W (place c j))).symm)
  rw [peak_eq X W m hX hW, Acc_at m X W hX hW c j]

end Blocks

/-! ## The claim -/

theorem algebraic : Cert.algebraic_KernelIdeal_ReferenceIdeal (hKernelIdeal := Cert.KernelIdeal.Gen.facts) (hReferenceIdeal := Cert.ReferenceIdeal.Gen.facts) := by
  intro m g m' g' _ h
  refine ⟨Cert.ReferenceIdeal.Value.G2 (m' (((0 : Dev nD).tc : Thread nD τ).loc main_arg0)) (m' (((0 : Dev nD).tc : Thread nD τ).loc main_arg1)), ?_, ?_⟩
  · refine (θ_run _ _ _).mono (fun r k c => ⟨(k c).1.trans ?_, (k c).2⟩) (Cert.KernelIdeal.Pf.value m g)
    exact outv_block _ _ m (fun c => (h c).1) (fun c => (h c).2) c
  · exact (θ_run _ _ _).mono (fun r k => k 0) (Cert.ReferenceIdeal.Value.run m' g')

end Cert.Whole

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.KernelIdeal.Run
public import proofs.«01_k».proof.Proof.KernelIdeal.Whole
public import proofs.«01_k».proof.Proof.Kernel.Run
public import Idealize.ShloMosaic.Adequacy
public import Idealize.ShloMosaic.Init

@[expose] public section

noncomputable section

namespace Cert.Proof

open Idealize.ShloMosaic Idealize.SL.Sem Cert.Kernel

/-- All claims of the certificate. -/
theorem claim : Cert.Claim := ⟨Cert.Kernel.Gen.facts, Cert.KernelIdeal.Gen.facts, Cert.ReferenceIdeal.Gen.facts,
  fun m ρ _ => Cert.Kernel.Pf.frame m ρ,
  fun m ρ _ => Cert.KernelIdeal.Pf.frame m ρ,
  fun m ρ _ => Cert.ReferenceIdeal.Gen.frame m ρ,
  trivial, Cert.Whole.algebraic⟩

end Cert.Proof

end
